-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S512x128 : Shape := ⟨2, ![512, 128]⟩
abbrev S512x512 : Shape := ⟨2, ![512, 512]⟩
abbrev S512x512x16 : Shape := ⟨3, ![512, 512, 16]⟩
abbrev S64x272 : Shape := ⟨2, ![64, 272]⟩
abbrev S64 : Shape := ⟨1, ![64]⟩
abbrev S64x64 : Shape := ⟨2, ![64, 64]⟩
abbrev S384x64 : Shape := ⟨2, ![384, 64]⟩
abbrev S384x128 : Shape := ⟨2, ![384, 128]⟩
abbrev S384 : Shape := ⟨1, ![384]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S512x512x16 : S_.BroadcastsInDim S512x512x16 (![] : Fin 0 → Fin S512x512x16.rank)
  reducesTo_S512x512x16_S_d0_1_2 : S512x512x16.ReducesTo [0, 1, 2] S_
  bcast_S_S64x272 : S_.BroadcastsInDim S64x272 (![] : Fin 0 → Fin S64x272.rank)
  reducesTo_S64x272_S_d0_1 : S64x272.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S512x128 .f32) (main_arg1 : FVec F S512x512 .f32) (main_arg2 : FVec F S512x512x16 .f32) (main_arg3 : FVec F S64x272 .f32) (main_arg4 : FVec F S64 .f32) (main_arg5 : FVec F S64x64 .f32) (main_arg6 : FVec F S64 .f32) (main_arg7 : FVec F S384x64 .f32) (main_arg8 : FVec F S384x128 .f32) (main_arg9 : FVec F S384 .f32) (main_arg10 : FVec F S384 .f32) : IVec S_ 1 :=
  let main_v0 : FVec F S512x128 .f32 := Host.absf main_arg0
  let main_cst : FVec F S_ .f32 := constant S_ .f32 0x447A0000#32
  let main_v1 : FVec F S512x128 .f32 := broadcastInDim S512x128 ![] bcast_S_S512x128 main_cst
  let main_v2 : IVec S512x128 1 := cmpf .ole main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x512x16 .f32 := Host.absf main_arg2
  let main_cst_0 : FVec F S_ .f32 := constant S_ .f32 0x447A0000#32
  let main_v5 : FVec F S512x512x16 .f32 := broadcastInDim S512x512x16 ![] bcast_S_S512x512x16 main_cst_0
  let main_v6 : IVec S512x512x16 1 := cmpf .ole main_v4 main_v5
  let main_c_1 : IVec S_ 1 := constantI S_ 1 1#1
  let main_v7 : IVec S_ 1 := (fun x v => Host.reduce IntOp.andi x v reducesTo_S512x512x16_S_d0_1_2 h_S_) main_v6 main_c_1
  let main_v8 : IVec S_ 1 := andi main_v3 main_v7
  let main_v9 : FVec F S64x272 .f32 := Host.absf main_arg3
  let main_cst_2 : FVec F S_ .f32 := constant S_ .f32 0x447A0000#32
  let main_v10 : FVec F S64x272 .f32 := broadcastInDim S64x272 ![] bcast_S_S64x272 main_cst_2
  let main_v11 : IVec S64x272 1 := cmpf .ole main_v9 main_v10
  let main_c_3 : IVec S_ 1 := constantI S_ 1 1#1
  let main_v12 : IVec S_ 1 := (fun x v => Host.reduce IntOp.andi x v reducesTo_S64x272_S_d0_1 h_S_) main_v11 main_c_3
  let main_v13 : IVec S_ 1 := andi main_v8 main_v12
  let main_v14 : FVec F S64 .f32 := Host.absf main_arg4
  let main_cst_4 : FVec F S_ .f32 := constant S_ .f32 0x447A0000#32
  let main_v15 : FVec F S64 .f32 := broadcastInDim S64 ![] bcast_S_S64 main_cst_4
  let main_v16 : IVec S64 1 := cmpf .ole main_v14 main_v15
  fn_part1 (F := F) main_v13 main_v16
-- ==== Kernel.lean ====
abbrev S512x128 : Shape := ⟨2, ![512, 128]⟩
abbrev S512x512 : Shape := ⟨2, ![512, 512]⟩
abbrev S512x512x16 : Shape := ⟨3, ![512, 512, 16]⟩
abbrev S64x272 : Shape := ⟨2, ![64, 272]⟩
abbrev S64 : Shape := ⟨1, ![64]⟩
abbrev S64x64 : Shape := ⟨2, ![64, 64]⟩
abbrev S384x64 : Shape := ⟨2, ![384, 64]⟩
abbrev S384x128 : Shape := ⟨2, ![384, 128]⟩
abbrev S384 : Shape := ⟨1, ![384]⟩
abbrev S64x128 : Shape := ⟨2, ![64, 128]⟩
abbrev S128x64 : Shape := ⟨2, ![128, 64]⟩
abbrev S64x16 : Shape := ⟨2, ![64, 16]⟩
abbrev S16x64 : Shape := ⟨2, ![16, 64]⟩
abbrev S_ : Shape := ⟨0, ![]⟩
abbrev S34x128 : Shape := ⟨2, ![34, 128]⟩
abbrev S1 : Shape := ⟨1, ![1]⟩
abbrev S2 : Shape := ⟨1, ![2]⟩
abbrev S1x64 : Shape := ⟨2, ![1, 64]⟩
abbrev S128x128 : Shape := ⟨2, ![128, 128]⟩
abbrev S64x384 : Shape := ⟨2, ![64, 384]⟩
abbrev S128x384 : Shape := ⟨2, ![128, 384]⟩
abbrev S1x384 : Shape := ⟨2, ![1, 384]⟩
abbrev S512x256x16 : Shape := ⟨3, ![512, 256, 16]⟩
abbrev S512x256 : Shape := ⟨2, ![512, 256]⟩
abbrev S512x256x1 : Shape := ⟨3, ![512, 256, 1]⟩
abbrev S512x256x34 : Shape := ⟨3, ![512, 256, 34]⟩
abbrev S512 : Shape := ⟨1, ![512]⟩
abbrev S512x1 : Shape := ⟨2, ![512, 1]⟩
abbrev S128x256x34 : Shape := ⟨3, ![128, 256, 34]⟩
abbrev S256x128 : Shape := ⟨2, ![256, 128]⟩
abbrev S512x64 : Shape := ⟨2, ![512, 64]⟩
abbrev S256x64 : Shape := ⟨2, ![256, 64]⟩
abbrev S128x256x128 : Shape := ⟨3, ![128, 256, 128]⟩
abbrev S128x1x128 : Shape := ⟨3, ![128, 1, 128]⟩
abbrev S1x256x128 : Shape := ⟨3, ![1, 256, 128]⟩
abbrev S128x1 : Shape := ⟨2, ![128, 1]⟩

abbrev nBuf : Space → Nat
  | .hbm => 86
  | .vmem => 19
  | .smem => 0
  | _ => 0

abbrev bufTy : (tb : Table) → Fin (tcTables nBuf tb) → BufTy
  | .hbm, ⟨0, _⟩ => ⟨S512x128, .f32⟩
  | .hbm, ⟨1, _⟩ => ⟨S512x512, .f32⟩
  | .hbm, ⟨2, _⟩ => ⟨S512x512x16, .f32⟩
  | .hbm, ⟨3, _⟩ => ⟨S64x272, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S384x64, .f32⟩
  | .hbm, ⟨8, _⟩ => ⟨S384x128, .f32⟩
  | .hbm, ⟨9, _⟩ => ⟨S384, .f32⟩
  | .hbm, ⟨10, _⟩ => ⟨S384, .f32⟩
  | .hbm, ⟨11, _⟩ => ⟨S64x128, .f32⟩
  | .hbm, ⟨12, _⟩ => ⟨S128x64, .f32⟩
  | .hbm, ⟨13, _⟩ => ⟨S64x128, .f32⟩
  | .hbm, ⟨14, _⟩ => ⟨S128x64, .f32⟩
  | .hbm, ⟨15, _⟩ => ⟨S64x16, .f32⟩
  | .hbm, ⟨16, _⟩ => ⟨S16x64, .f32⟩
  | .hbm, ⟨17, _⟩ => ⟨S_, .f32⟩
  | .hbm, ⟨18, _⟩ => ⟨S34x128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S34x128, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S_, .f32⟩
  | .hbm, ⟨31, _⟩ => ⟨S64, .f32⟩
  | .hbm, ⟨32, _⟩ => ⟨S34x128, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S34x128, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S_, .f32⟩
  | .hbm, ⟨45, _⟩ => ⟨S64, .f32⟩
  | .hbm, ⟨46, _⟩ => ⟨S34x128, .f32⟩
  | .hbm, ⟨47, _⟩ => ⟨S1x64, .f32⟩
  | .hbm, ⟨48, _⟩ => ⟨S64x64, .f32⟩
  | .hbm, ⟨49, _⟩ => ⟨S_, .f32⟩
  | .hbm, ⟨50, _⟩ => ⟨S128x128, .f32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S2, .i32⟩
  | .hbm, ⟨56, _⟩ => ⟨S128x128, .f32⟩
  | .hbm, ⟨57, _⟩ => ⟨S_, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S2, .i32⟩
  | .hbm, ⟨62, _⟩ => ⟨S128x128, .f32⟩
  | .hbm, ⟨63, _⟩ => ⟨S1x64, .f32⟩
  | .hbm, ⟨64, _⟩ => ⟨S64x384, .f32⟩
  | .hbm, ⟨65, _⟩ => ⟨S128x384, .f32⟩
  | .hbm, ⟨66, _⟩ => ⟨S1x384, .f32⟩
  | .hbm, ⟨67, _⟩ => ⟨S1x384, .f32⟩
  | .hbm, ⟨68, _⟩ => ⟨S_, .f32⟩
  | .hbm, ⟨69, _⟩ => ⟨S512x512, .f32⟩
  | .hbm, ⟨70, _⟩ => ⟨S512x512, .i1⟩
  | .hbm, ⟨71, _⟩ => ⟨S512x512, .f32⟩
  | .hbm, ⟨72, _⟩ => ⟨S_, .f32⟩
  | .hbm, ⟨73, _⟩ => ⟨S512x512, .f32⟩
  | .hbm, ⟨74, _⟩ => ⟨S512x512, .f32⟩
  | .hbm, ⟨75, _⟩ => ⟨S512x256x16, .f32⟩
  | .hbm, ⟨76, _⟩ => ⟨S512x256, .f32⟩
  | .hbm, ⟨77, _⟩ => ⟨S512x256x1, .f32⟩
  | .hbm, ⟨78, _⟩ => ⟨S512x256x16, .f32⟩
  | .hbm, ⟨79, _⟩ => ⟨S512x256, .f32⟩
  | .hbm, ⟨80, _⟩ => ⟨S512x256x1, .f32⟩
  | .hbm, ⟨81, _⟩ => ⟨S512x256x34, .f32⟩
  | .hbm, ⟨82, _⟩ => ⟨S_, .f32⟩
  | .hbm, ⟨83, _⟩ => ⟨S512, .f32⟩
  | .hbm, ⟨84, _⟩ => ⟨S512x1, .f32⟩
  | .hbm, ⟨85, _⟩ => ⟨S512x128, .f32⟩
  | .local _ .vmem, ⟨0, _⟩ => ⟨S512x128, .f32⟩
  | .local _ .vmem, ⟨1, _⟩ => ⟨S128x256x34, .f32⟩
  | .local _ .vmem, ⟨2, _⟩ => ⟨S128x256x34, .f32⟩
  | .local _ .vmem, ⟨3, _⟩ => ⟨S512x1, .f32⟩
  | .local _ .vmem, ⟨4, _⟩ => ⟨S128x64, .f32⟩
  | .local _ .vmem, ⟨5, _⟩ => ⟨S128x64, .f32⟩
  | .local _ .vmem, ⟨6, _⟩ => ⟨S34x128, .f32⟩
  | .local _ .vmem, ⟨7, _⟩ => ⟨S1x64, .f32⟩
  | .local _ .vmem, ⟨8, _⟩ => ⟨S128x128, .f32⟩
  | .local _ .vmem, ⟨9, _⟩ => ⟨S1x64, .f32⟩
  | .local _ .vmem, ⟨10, _⟩ => ⟨S64x384, .f32⟩
  | .local _ .vmem, ⟨11, _⟩ => ⟨S128x384, .f32⟩
  | .local _ .vmem, ⟨12, _⟩ => ⟨S1x384, .f32⟩
  | .local _ .vmem, ⟨13, _⟩ => ⟨S1x384, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S256x128, .f32⟩
  | .local _ .vmem, ⟨18, _⟩ => ⟨S128x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_c_7 : Ref sig .tc := ⟨.hbm, 41, rfl⟩
abbrev main_v21 : Ref sig .tc := ⟨.hbm, 42, rfl⟩
abbrev main_v22 : Ref sig .tc := ⟨.hbm, 43, rfl⟩
abbrev main_cst_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_c_10 : Ref sig .tc := ⟨.hbm, 51, rfl⟩
abbrev main_v28 : Ref sig .tc := ⟨.hbm, 52, rfl⟩
abbrev main_c_11 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_12 : Ref sig .tc := ⟨.hbm, 57, rfl⟩
abbrev main_v32 : Ref sig .tc := ⟨.hbm, 58, rfl⟩
abbrev main_c_13 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_14 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_15 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_16 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14

abbrev nD : Nat := 1
abbrev τ : Topo := Topo.v7x

variable {F : FTy → Type} [FloatOps F]

abbrev grid0 : Pipeline.Grid := ⟨3, ![3, 4, 1], ![false, false, false]⟩

def k0_off1 (i : grid0.Coords) : Fin 2 → Nat :=
  let arg1 : BitVec 32 := BitVec.ofNat 32 (i 1).val
  let c128_i32 : BitVec 32 := 128#32
  let v13 : BitVec 32 := Scalar.muli arg1 c128_i32
  let v14 : Index := Scalar.indexCast v13
  let c0_8 : Index := 0#32
  ![v14.toNat, 0]
def k0_off2 (i : grid0.Coords) : Fin 2 → Nat :=
  let arg2 : BitVec 32 := BitVec.ofNat 32 (i 2).val
  let c256_i32 : BitVec 32 := 256#32
  let v16 : BitVec 32 := Scalar.muli arg2 c256_i32
  let v17 : Index := Scalar.indexCast v16
  let c0_9 : Index := 0#32
  ![v17.toNat, 0]
def k0_cond5 (i : grid0.Coords) : BitVec 1 :=
  let arg2 : BitVec 32 := BitVec.ofNat 32 (i 2).val
  let c0_i32_19 : BitVec 32 := 0#32
  let v36 : BitVec 1 := Scalar.cmpi .eq arg2 c0_i32_19
  let v37 : BitVec 32 := Scalar.extui v36
  let c0_i32_20 : BitVec 32 := 0#32
  let v38 : BitVec 1 := Scalar.cmpi .ne v37 c0_i32_20
  v38

def k0_off3 (i : grid0.Coords) : Fin 2 → Nat :=
  let arg1 : BitVec 32 := BitVec.ofNat 32 (i 1).val
  let c128_i32_23 : BitVec 32 := 128#32
  let v43 : BitVec 32 := Scalar.muli arg1 c128_i32_23
  let v44 : Index := Scalar.indexCast v43
  let c0_24 : Index := 0#32
  ![v44.toNat, 0]
def k0_off4 (i : grid0.Coords) : Fin 2 → Nat :=
  let arg1 : BitVec 32 := BitVec.ofNat 32 (i 1).val
  let c128_i32_27 : BitVec 32 := 128#32
  let v53 : BitVec 32 := Scalar.muli arg1 c128_i32_27
  let v54 : Index := Scalar.indexCast v53
  let c0_28 : Index := 0#32
  ![v54.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S128x256x34 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S34x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S64x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S128x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]
-- ==== ReferenceIdeal.lean ====
abbrev S512x128 : Shape := ⟨2, ![512, 128]⟩
abbrev S512x512 : Shape := ⟨2, ![512, 512]⟩
abbrev S512x512x16 : Shape := ⟨3, ![512, 512, 16]⟩
abbrev S64x272 : Shape := ⟨2, ![64, 272]⟩
abbrev S64 : Shape := ⟨1, ![64]⟩
abbrev S64x64 : Shape := ⟨2, ![64, 64]⟩
abbrev S384x64 : Shape := ⟨2, ![384, 64]⟩
abbrev S384x128 : Shape := ⟨2, ![384, 128]⟩
abbrev S384 : Shape := ⟨1, ![384]⟩
abbrev S_ : Shape := ⟨0, ![]⟩
abbrev S512x512x1 : Shape := ⟨3, ![512, 512, 1]⟩
abbrev S64x128 : Shape := ⟨2, ![64, 128]⟩
abbrev S64x16 : Shape := ⟨2, ![64, 16]⟩
abbrev S128x64 : Shape := ⟨2, ![128, 64]⟩
abbrev S512x64 : Shape := ⟨2, ![512, 64]⟩
abbrev S512x512x64 : Shape := ⟨3, ![512, 512, 64]⟩
abbrev S512x1x64 : Shape := ⟨3, ![512, 1, 64]⟩
abbrev S1x512x64 : Shape := ⟨3, ![1, 512, 64]⟩
abbrev S1x1x64 : Shape := ⟨3, ![1, 1, 64]⟩
abbrev S64x384 : Shape := ⟨2, ![64, 384]⟩
abbrev S512x384 : Shape := ⟨2, ![512, 384]⟩
abbrev S1x384 : Shape := ⟨2, ![1, 384]⟩
abbrev S128x384 : Shape := ⟨2, ![128, 384]⟩

abbrev nBuf : Space → Nat
  | .hbm => 226
  | .vmem => 0
  | .smem => 0
  | _ => 0

abbrev hbmTy0_0 (i : Nat) : BufTy := match i % 128 with
  | 0 => ⟨S512x128, .f32⟩
  | 1 => ⟨S512x512, .f32⟩
  | 2 => ⟨S512x512x16, .f32⟩
  | 3 => ⟨S64x272, .f32⟩
  | 4 => ⟨S64, .f32⟩
  | 5 => ⟨S64x64, .f32⟩
  | 6 => ⟨S64, .f32⟩
  | 7 => ⟨S384x64, .f32⟩
  | 8 => ⟨S384x128, .f32⟩
  | 9 => ⟨S384, .f32⟩
  | 10 => ⟨S384, .f32⟩
  | 11 => ⟨S_, .f32⟩
  | 12 => ⟨S512x512, .f32⟩
  | 13 => ⟨S512x512, .i1⟩
  | 14 => ⟨S512x512, .f32⟩
  | 15 => ⟨S512x512x1, .f32⟩
  | 16 => ⟨S64x128, .f32⟩
  | 17 => ⟨S64x128, .f32⟩
  | 18 => ⟨S64x16, .f32⟩
  | 19 => ⟨S128x64, .f32⟩
  | 20 => ⟨S512x64, .f32⟩
  | 21 => ⟨S128x64, .f32⟩
  | 22 => ⟨S512x64, .f32⟩
  | 23 => ⟨S512x512x64, .f32⟩
  | 24 => ⟨S512x1x64, .f32⟩
  | 25 => ⟨S1x512x64, .f32⟩
  | 26 => ⟨S512x512x64, .f32⟩
  | 27 => ⟨S512x512x64, .f32⟩
  | 28 => ⟨S512x512x64, .f32⟩
  | 29 => ⟨S512x512x64, .f32⟩
  | 30 => ⟨S1x1x64, .f32⟩
  | 31 => ⟨S512x512x64, .f32⟩
  | 32 => ⟨S512x512x64, .f32⟩
  | 33 => ⟨S_, .f32⟩
  | 34 => ⟨S512x512x64, .f32⟩
  | 35 => ⟨S512x512x64, .f32⟩
  | 36 => ⟨S64x64, .f32⟩
  | 37 => ⟨S512x512x64, .f32⟩
  | 38 => ⟨S1x1x64, .f32⟩
  | 39 => ⟨S512x512x64, .f32⟩
  | 40 => ⟨S512x512x64, .f32⟩
  | 41 => ⟨S512x512x64, .f32⟩
  | 42 => ⟨S512x512x64, .f32⟩
  | 43 => ⟨S_, .f32⟩
  | 44 => ⟨S512x64, .f32⟩
  | 45 => ⟨S64x384, .f32⟩
  | 46 => ⟨S512x384, .f32⟩
  | 47 => ⟨S1x384, .f32⟩
  | 48 => ⟨S512x384, .f32⟩
  | 49 => ⟨S512x384, .f32⟩
  | 50 => ⟨S128x384, .f32⟩
  | 51 => ⟨S512x384, .f32⟩
  | 52 => ⟨S1x384, .f32⟩
  | 53 => ⟨S512x384, .f32⟩
  | 54 => ⟨S512x384, .f32⟩
  | 55 => ⟨S512x128, .f32⟩
  | 56 => ⟨S512x128, .f32⟩
  | 57 => ⟨S512x128, .f32⟩
  | 58 => ⟨S512x128, .f32⟩
  | 59 => ⟨S512x128, .f32⟩
  | 60 => ⟨S512x128, .f32⟩
  | 61 => ⟨S512x128, .f32⟩
  | 62 => ⟨S512x128, .f32⟩
  | 63 => ⟨S512x128, .f32⟩
  | 64 => ⟨S_, .f32⟩
  | 65 => ⟨S512x128, .f32⟩
  | 66 => ⟨S512x128, .f32⟩
  | 67 => ⟨S_, .f32⟩
  | 68 => ⟨S512x128, .f32⟩
  | 69 => ⟨S512x128, .f32⟩
  | 70 => ⟨S512x128, .f32⟩
  | 71 => ⟨S512x128, .f32⟩
  | 72 => ⟨S512x128, .f32⟩
  | 73 => ⟨S_, .f32⟩
  | 74 => ⟨S512x128, .f32⟩
  | 75 => ⟨S512x128, .f32⟩
  | 76 => ⟨S_, .f32⟩
  | 77 => ⟨S512x128, .f32⟩
  | 78 => ⟨S512x128, .f32⟩
  | 79 => ⟨S512x128, .f32⟩
  | 80 => ⟨S512x128, .f32⟩
  | 81 => ⟨S512x128, .f32⟩
  | 82 => ⟨S_, .f32⟩
  | 83 => ⟨S512x128, .f32⟩
  | 84 => ⟨S512x128, .f32⟩
  | 85 => ⟨S512x128, .f32⟩
  | 86 => ⟨S512x128, .f32⟩
  | 87 => ⟨S512x128, .f32⟩
  | 88 => ⟨S128x64, .f32⟩
  | 89 => ⟨S512x64, .f32⟩
  | 90 => ⟨S128x64, .f32⟩
  | 91 => ⟨S512x64, .f32⟩
  | 92 => ⟨S512x512x64, .f32⟩
  | 93 => ⟨S512x1x64, .f32⟩
  | 94 => ⟨S1x512x64, .f32⟩
  | 95 => ⟨S512x512x64, .f32⟩
  | 96 => ⟨S512x512x64, .f32⟩
  | 97 => ⟨S512x512x64, .f32⟩
  | 98 => ⟨S512x512x64, .f32⟩
  | 99 => ⟨S1x1x64, .f32⟩
  | 100 => ⟨S512x512x64, .f32⟩
  | 101 => ⟨S512x512x64, .f32⟩
  | 102 => ⟨S_, .f32⟩
  | 103 => ⟨S512x512x64, .f32⟩
  | 104 => ⟨S512x512x64, .f32⟩
  | 105 => ⟨S64x64, .f32⟩
  | 106 => ⟨S512x512x64, .f32⟩
  | 107 => ⟨S1x1x64, .f32⟩
  | 108 => ⟨S512x512x64, .f32⟩
  | 109 => ⟨S512x512x64, .f32⟩
  | 110 => ⟨S512x512x64, .f32⟩
  | 111 => ⟨S512x512x64, .f32⟩
  | 112 => ⟨S_, .f32⟩
  | 113 => ⟨S512x64, .f32⟩
  | 114 => ⟨S64x384, .f32⟩
  | 115 => ⟨S512x384, .f32⟩
  | 116 => ⟨S1x384, .f32⟩
  | 117 => ⟨S512x384, .f32⟩
  | 118 => ⟨S512x384, .f32⟩
  | 119 => ⟨S128x384, .f32⟩
  | 120 => ⟨S512x384, .f32⟩
  | 121 => ⟨S1x384, .f32⟩
  | 122 => ⟨S512x384, .f32⟩
  | 123 => ⟨S512x384, .f32⟩
  | 124 => ⟨S512x128, .f32⟩
  | 125 => ⟨S512x128, .f32⟩
  | 126 => ⟨S512x128, .f32⟩
  | 127 => ⟨S512x128, .f32⟩
  | _ => ⟨S512x128, .f32⟩

abbrev hbmTy0_1 (i : Nat) : BufTy := match i % 128 with
  | 0 => ⟨S512x128, .f32⟩
  | 1 => ⟨S512x128, .f32⟩
  | 2 => ⟨S512x128, .f32⟩
  | 3 => ⟨S512x128, .f32⟩
  | 4 => ⟨S512x128, .f32⟩
  | 5 => ⟨S_, .f32⟩
  | 6 => ⟨S512x128, .f32⟩
  | 7 => ⟨S512x128, .f32⟩
  | 8 => ⟨S_, .f32⟩
  | 9 => ⟨S512x128, .f32⟩
  | 10 => ⟨S512x128, .f32⟩
  | 11 => ⟨S512x128, .f32⟩
  | 12 => ⟨S512x128, .f32⟩
  | 13 => ⟨S512x128, .f32⟩
  | 14 => ⟨S_, .f32⟩
  | 15 => ⟨S512x128, .f32⟩
  | 16 => ⟨S512x128, .f32⟩
  | 17 => ⟨S_, .f32⟩
  | 18 => ⟨S512x128, .f32⟩
  | 19 => ⟨S512x128, .f32⟩
  | 20 => ⟨S512x128, .f32⟩
  | 21 => ⟨S512x128, .f32⟩
  | 22 => ⟨S512x128, .f32⟩
  | 23 => ⟨S_, .f32⟩
  | 24 => ⟨S512x128, .f32⟩
  | 25 => ⟨S512x128, .f32⟩
  | 26 => ⟨S512x128, .f32⟩
  | 27 => ⟨S512x128, .f32⟩
  | 28 => ⟨S512x128, .f32⟩
  | 29 => ⟨S128x64, .f32⟩
  | 30 => ⟨S512x64, .f32⟩
  | 31 => ⟨S128x64, .f32⟩
  | 32 => ⟨S512x64, .f32⟩
  | 33 => ⟨S512x512x64, .f32⟩
  | 34 => ⟨S512x1x64, .f32⟩
  | 35 => ⟨S1x512x64, .f32⟩
  | 36 => ⟨S512x512x64, .f32⟩
  | 37 => ⟨S512x512x64, .f32⟩
  | 38 => ⟨S512x512x64, .f32⟩
  | 39 => ⟨S512x512x64, .f32⟩
  | 40 => ⟨S1x1x64, .f32⟩
  | 41 => ⟨S512x512x64, .f32⟩
  | 42 => ⟨S512x512x64, .f32⟩
  | 43 => ⟨S_, .f32⟩
  | 44 => ⟨S512x512x64, .f32⟩
  | 45 => ⟨S512x512x64, .f32⟩
  | 46 => ⟨S64x64, .f32⟩
  | 47 => ⟨S512x512x64, .f32⟩
  | 48 => ⟨S1x1x64, .f32⟩
  | 49 => ⟨S512x512x64, .f32⟩
  | 50 => ⟨S512x512x64, .f32⟩
  | 51 => ⟨S512x512x64, .f32⟩
  | 52 => ⟨S512x512x64, .f32⟩
  | 53 => ⟨S_, .f32⟩
  | 54 => ⟨S512x64, .f32⟩
  | 55 => ⟨S64x384, .f32⟩
  | 56 => ⟨S512x384, .f32⟩
  | 57 => ⟨S1x384, .f32⟩
  | 58 => ⟨S512x384, .f32⟩
  | 59 => ⟨S512x384, .f32⟩
  | 60 => ⟨S128x384, .f32⟩
  | 61 => ⟨S512x384, .f32⟩
  | 62 => ⟨S1x384, .f32⟩
  | 63 => ⟨S512x384, .f32⟩
  | 64 => ⟨S512x384, .f32⟩
  | 65 => ⟨S512x128, .f32⟩
  | 66 => ⟨S512x128, .f32⟩
  | 67 => ⟨S512x128, .f32⟩
  | 68 => ⟨S512x128, .f32⟩
  | 69 => ⟨S512x128, .f32⟩
  | 70 => ⟨S512x128, .f32⟩
  | 71 => ⟨S512x128, .f32⟩
  | 72 => ⟨S512x128, .f32⟩
  | 73 => ⟨S512x128, .f32⟩
  | 74 => ⟨S_, .f32⟩
  | 75 => ⟨S512x128, .f32⟩
  | 76 => ⟨S512x128, .f32⟩
  | 77 => ⟨S_, .f32⟩
  | 78 => ⟨S512x128, .f32⟩
  | 79 => ⟨S512x128, .f32⟩
  | 80 => ⟨S512x128, .f32⟩
  | 81 => ⟨S512x128, .f32⟩
  | 82 => ⟨S512x128, .f32⟩
  | 83 => ⟨S_, .f32⟩
  | 84 => ⟨S512x128, .f32⟩
  | 85 => ⟨S512x128, .f32⟩
  | 86 => ⟨S_, .f32⟩
  | 87 => ⟨S512x128, .f32⟩
  | 88 => ⟨S512x128, .f32⟩
  | 89 => ⟨S512x128, .f32⟩
  | 90 => ⟨S512x128, .f32⟩
  | 91 => ⟨S512x128, .f32⟩
  | 92 => ⟨S_, .f32⟩
  | 93 => ⟨S512x128, .f32⟩
  | 94 => ⟨S512x128, .f32⟩
  | 95 => ⟨S512x128, .f32⟩
  | 96 => ⟨S512x128, .f32⟩
  | 97 => ⟨S512x128, .f32⟩
  | _ => ⟨S512x128, .f32⟩

abbrev hbmTy (i : Nat) : BufTy := match i / 128 with
  | 0 => hbmTy0_0 i
  | 1 => hbmTy0_1 i
  | _ => ⟨S512x128, .f32⟩

abbrev bufTy : (tb : Table) → Fin (tcTables nBuf tb) → BufTy
  | .hbm, ⟨i, _⟩ => hbmTy i
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_cst : Ref sig .tc := ⟨.hbm, 33, rfl⟩
abbrev main_call0_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_1 : Ref sig .tc := ⟨.hbm, 64, rfl⟩
abbrev main_v49 : Ref sig .tc := ⟨.hbm, 65, rfl⟩
abbrev main_v50 : Ref sig .tc := ⟨.hbm, 66, rfl⟩
abbrev main_cst_2 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_3 : Ref sig .tc := ⟨.hbm, 73, rfl⟩
abbrev main_v56 : Ref sig .tc := ⟨.hbm, 74, rfl⟩
abbrev main_v57 : Ref sig .tc := ⟨.hbm, 75, rfl⟩
abbrev main_cst_4 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_5 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_call1_cst : Ref sig .tc := ⟨.hbm, 102, rfl⟩
abbrev main_call1_v0 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_6 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_cst_7 : Ref sig .tc := ⟨.hbm, 133, rfl⟩
abbrev main_v110 : Ref sig .tc := ⟨.hbm, 134, rfl⟩
abbrev main_v111 : Ref sig .tc := ⟨.hbm, 135, rfl⟩
abbrev main_cst_8 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_9 : Ref sig .tc := ⟨.hbm, 142, rfl⟩
abbrev main_v117 : Ref sig .tc := ⟨.hbm, 143, rfl⟩
abbrev main_v118 : Ref sig .tc := ⟨.hbm, 144, rfl⟩
abbrev main_cst_10 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_cst_11 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_call2_cst : Ref sig .tc := ⟨.hbm, 171, rfl⟩
abbrev main_call2_v0 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_cst_12 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_cst_13 : Ref sig .tc := ⟨.hbm, 202, rfl⟩
abbrev main_v171 : Ref sig .tc := ⟨.hbm, 203, rfl⟩
abbrev main_v172 : Ref sig .tc := ⟨.hbm, 204, rfl⟩
abbrev main_cst_14 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_cst_15 : Ref sig .tc := ⟨.hbm, 211, rfl⟩
abbrev main_v178 : Ref sig .tc := ⟨.hbm, 212, rfl⟩
abbrev main_v179 : Ref sig .tc := ⟨.hbm, 213, rfl⟩
abbrev main_cst_16 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_cst_17 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩

abbrev nD : Nat := 1
abbrev τ : Topo := Topo.v7x

variable {F : FTy → Type} [FloatOps F]
-- ==== Proof.LaunchKernel.lean ====
module

public import proofs.«01_k».proof.Proof.BodyKernel

@[expose] public section

set_option maxRecDepth 16384

noncomputable section

/-! The program's frame. -/

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A run's post leaves the argument arrays as they were. -/
theorem args_of (r : PUnit × MemSt nD τ sig (Elt F)) (h : Pipeline.RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩

/-- The frame: the program terminates from any memory with zero counters, its argument arrays unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => args_of m r h.1 c, h.2⟩) (run_main_quiescent m ρ)

end Cert.Kernel.Gen

end
-- ==== Proof.RunKernelIdeal.lean ====
module

public import proofs.«01_k».proof.Proof.Gen.KernelIdeal.Frame
public import proofs.«01_k».proof.Proof.Gen.KernelIdeal.Skeleton
public import Idealize.ShloMosaic.Lib.VecWindow
public import Idealize.ShloMosaic.Lib.WholeRead
public import Idealize.ShloMosaic.Lib.Pipeline.ValueKit.Basic

@[expose] public section

set_option maxRecDepth 16384

noncomputable section

/-! One run of the kernel's body at a grid point: what its stores leave, from what its buffers held. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first row block of a step (the second grid coordinate, and the third, are zero). -/
abbrev cA (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- The first step (the first grid coordinate is zero). -/
abbrev cB (i : grid0.Coords) : Prop := (Scalar.cmpi .ne (Scalar.extui (Scalar.cmpi .eq (BitVec.ofNat 32 (i 0).val) 0#32)) 0#32) = 1#1
/-- A later step (the first grid coordinate is positive). -/
abbrev cC (i : grid0.Coords) : Prop := (Scalar.cmpi .ne (Scalar.extui (Scalar.cmpi .sgt (BitVec.ofNat 32 (i 0).val) 0#32)) 0#32) = 1#1
/-- The first neighbour block (the third grid coordinate is zero: always, at this grid). -/
abbrev cD (i : grid0.Coords) : Prop := (Scalar.cmpi .ne (Scalar.extui (Scalar.cmpi .eq (BitVec.ofNat 32 (i 2).val) 0#32)) 0#32) = 1#1

/-- A load after a store of the whole buffer reads the stored vector's part at the load's box. -/
theorem readAt_of_stored {sg : RefSig} {κ : Kind} {sp : Space} {S : Shape} {e : EltTy} {Val : EltTy → Type} [∀ e, Nonempty (Val e)]
    (v : View sg κ sp S e) (f : BufTy.Contents Val v.ty) {off : Fin S.rank → ℕ} (inb : ∀ a, off a + S.size a ≤ S.size a) (w : S.Idx → Val e)
    (L : List (View.Piece Val S e)) (r : Rect S) :
    v.readAt Val r.toLoadRect (v.writes Val f (⟨Rect.unit off S.size inb, w⟩ :: L)) = View.ld w r := by
  funext x
  exact congrFun (v.read_writes_full f inb w L) (r.idx x)

/-- `readAt_of_stored` at the state's shape. -/
theorem readAt_of_stored_state {sg : RefSig} {κ : Kind} {sp : Space} {e : EltTy} {Val : EltTy → Type} [∀ e, Nonempty (Val e)]
    (v : View sg κ sp S512x128 e) (f : BufTy.Contents Val v.ty) (inb : ∀ a, (![0, 0] : Fin 2 → ℕ) a + (![512, 128] : Fin 2 → ℕ) a ≤ S512x128.size a) (w : S512x128.Idx → Val e) (r : Rect S512x128) :
    v.readAt Val r.toLoadRect (v.writes Val f [⟨Rect.unit (s := S512x128) ![0, 0] ![512, 128] inb, w⟩]) = View.ld w r :=
  readAt_of_stored v f inb w [] r

/-- `readAt_of_stored` at the shape of the per-neighbour term. -/
theorem readAt_of_stored_nbr {sg : RefSig} {κ : Kind} {sp : Space} {e : EltTy} {Val : EltTy → Type} [∀ e, Nonempty (Val e)]
    (v : View sg κ sp S256x128 e) (f : BufTy.Contents Val v.ty) (inb : ∀ a, (![0, 0] : Fin 2 → ℕ) a + (![256, 128] : Fin 2 → ℕ) a ≤ S256x128.size a) (w : S256x128.Idx → Val e) (r : Rect S256x128) :
    v.readAt Val r.toLoadRect (v.writes Val f [⟨Rect.unit (s := S256x128) ![0, 0] ![256, 128] inb, w⟩]) = View.ld w r :=
  readAt_of_stored v f inb w [] r

/-- The whole load after a whole store of the state's shape reads the stored vector. -/
theorem readCov_of_stored_state {sg : RefSig} {κ : Kind} {sp : Space} {e : EltTy} {Val : EltTy → Type} [∀ e, Nonempty (Val e)]
    (v : View sg κ sp S512x128 e) (inb inb' : ∀ a, (![0, 0] : Fin 2 → ℕ) a + (![512, 128] : Fin 2 → ℕ) a ≤ S512x128.size a) (w : S512x128.Idx → Val e) :
    v.readCov [⟨Rect.unit (s := S512x128) ![0, 0] ![512, 128] inb, w⟩] (Rect.unit (s := S512x128) ![0, 0] ![512, 128] inb').toLoadRect = w :=
  (readAt_of_stored_state v _ inb w _).trans (View.ld_unit_zero (S := S512x128) (by decide) inb' w)

/-- The whole load after a whole store of the accumulator's shape reads the stored vector, whatever was stored before. -/
theorem readCov_of_stored_acc {sg : RefSig} {κ : Kind} {sp : Space} {e : EltTy} {Val : EltTy → Type} [∀ e, Nonempty (Val e)]
    (v : View sg κ sp S128x128 e) (inb inb' : ∀ a, (![0, 0] : Fin 2 → ℕ) a + (![128, 128] : Fin 2 → ℕ) a ≤ S128x128.size a) (w : S128x128.Idx → Val e) (L : List (View.Piece Val S128x128 e)) :
    v.readCov (⟨Rect.unit (s := S128x128) ![0, 0] ![128, 128] inb, w⟩ :: L) (Rect.unit (s := S128x128) ![0, 0] ![128, 128] inb').toLoadRect = w :=
  (readAt_of_stored v _ inb w L _).trans (View.ld_unit_zero (S := S128x128) (by decide) inb' w)

/-- A load of a whole memref's buffer reads the part of its contents at the load's box. -/
theorem readAt_of_unread {sg : RefSig} {κ : Kind} {sp : Space} {S : Shape} {e : EltTy} {Val : EltTy → Type}
    {m : Memref sg κ sp S e} (h : m.IsWhole) (X : S.Idx → Val e) (r : Rect S) :
    m.view.readAt Val r.toLoadRect (h.unread X) = View.ld X r := by
  funext x
  rw [Memref.IsWhole.readAt_unread]

section
variable (i : grid0.Coords)

/-- The rows of the per-row term that the point's row block adds. -/
abbrev rowsP (p : Vec F S512x128 .f32) : Vec F S128x128 .f32 := View.ld p (Rect.unit (s := S512x128) (k0_off1 i) S128x128.size (k0_off1_inb i))
/-- The rows of the per-neighbour term that the point's neighbour block adds. -/
abbrev rowsQ (q : Vec F S256x128 .f32) : Vec F S256x128 .f32 := View.ld q (Rect.unit (s := S256x128) (k0_off2 i) S256x128.size (k0_off2_inb i))

/-- What the point accumulates over its neighbours, before the two lane halves are added. -/
def accOf (x1 : Vec F S128x256x34 .f32) (x5 : Vec F S34x128 .f32) (x7 : Vec F S128x128 .f32) (p : Vec F S512x128 .f32) (q : Vec F S256x128 .f32) : Vec F S128x128 .f32 :=
  k0_pay1 (k0_pay13 x1 x5 (rowsP i p) (rowsQ i q) x7 k0_pay12)

/-- The rows the point stores: the gated update of its row block of the state `h`. -/
def newRows (hc5 : k0_cond5 i = 1#1) (x1 : Vec F S128x256x34 .f32) (x2 : Vec F S512x1 .f32) (x5 : Vec F S34x128 .f32) (x7 : Vec F S128x128 .f32) (x8 : Vec F S1x64 .f32) (x9 : Vec F S64x384 .f32) (x10 : Vec F S128x384 .f32) (x11 : Vec F S1x384 .f32) (x12 : Vec F S1x384 .f32)
    (h p : Vec F S512x128 .f32) (q : Vec F S256x128 .f32) : Vec F S128x128 .f32 :=
  let a := accOf i x1 x5 x7 p q
  let d := View.ld x2 (Rect.unit (s := S512x1) (k0_off3 i) S128x1.size (k0_off3_inb i hc5))
  let g := View.ld h (Rect.unit (s := S512x128) (k0_off4 i) S128x128.size (k0_off4_inb i hc5))
  k0_pay2 g (k0_pay5 a d x8 g x9 x11 x10 x12) (k0_pay6 a d x8 x9 x11) (k0_pay7 a d x8 g x9 x11 x10 x12)

end

variable (c : Dev nD) (i : grid0.Coords) (arg3 : Memref sig .tc .vmem S512x128 .f32) (harg3 : arg3.IsWhole) (arg4 : Memref sig .tc .vmem S128x256x34 .f32) (harg4 : arg4.IsWhole) (arg5 : Memref sig .tc .vmem S512x1 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S34x128 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x64 .f32) (harg11 : arg11.IsWhole) (arg12 : Memref sig .tc .vmem S64x384 .f32) (harg12 : arg12.IsWhole) (arg13 : Memref sig .tc .vmem S128x384 .f32) (harg13 : arg13.IsWhole) (arg14 : Memref sig .tc .vmem S1x384 .f32) (harg14 : arg14.IsWhole) (arg15 : Memref sig .tc .vmem S1x384 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S256x128 .f32) (harg19 : arg19.IsWhole) (arg20 : Memref sig .tc .vmem S128x128 .f32) (harg20 : arg20.IsWhole) (x0 : Vec F S512x128 .f32) (x1 : Vec F S128x256x34 .f32) (x2 : Vec F S512x1 .f32) (x3 : Vec F S128x64 .f32) (x4 : Vec F S128x64 .f32) (x5 : Vec F S34x128 .f32) (x6 : Vec F S1x64 .f32) (x7 : Vec F S128x128 .f32) (x8 : Vec F S1x64 .f32) (x9 : Vec F S64x384 .f32) (x10 : Vec F S128x384 .f32) (x11 : Vec F S1x384 .f32) (x12 : Vec F S1x384 .f32)

set_option maxHeartbeats 4000000 in
/-- The first point of the first step: the state is the input, the two terms are computed from it, and the point's rows are stored. -/
theorem run_first (Y h p : Vec F S512x128 .f32) (q : Vec F S256x128 .f32) (hc1 : cA i) (hc2 : cB i) (hc3 : ¬cC i) (hc4 : cD i) (hc5 : k0_cond5 i = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare Y ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare (VecWindow.put Y (k0_off4 i) S128x128.size (newRows i hc5 x1 x2 x5 x7 x8 x9 x10 x11 x12 (k0_pay8 x0) (k0_pay10 (k0_pay8 x0) x3 x6) (k0_pay11 (k0_pay8 x0) x4)))
          ∗ owns (c : Thread nD τ) arg17 fullShare (k0_pay8 x0) ∗ owns (c : Thread nD τ) arg18 fullShare (k0_pay10 (k0_pay8 x0) x3 x6) ∗ owns (c : Thread nD τ) arg19 fullShare (k0_pay11 (k0_pay8 x0) x4) ∗ (∃ d, owns (c : Thread nD τ) arg20 fullShare d)) -∗ K ⟨⟩))
      ⊢ wp frame (wpE (defs₀ (F := F)) Variants.none c none) E (cc0__mpnn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__mpnn_kernel_eq_skeleton]; unfold cc0__mpnn_kernel_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%ds0, %fs0, -, HS0⟩, ⟨%ds1, %fs1, -, HS1⟩, ⟨%ds2, %fs2, -, HS2⟩, ⟨%ds3, %fs3, -, HS3⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13
  sl_exec (disch := first | sl_exact hc1 | sl_exact hc2 | sl_exact hc3 | sl_exact hc4 | sl_exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr
    swap; · iexact H13
    ipureintro
    refine (View.read_writes_cons_put _ _ _ _ _ rfl).trans ?_
    rw [View.writes_nil, harg16.read_unread]
    refine congrArg (VecWindow.put Y (k0_off4 i) S128x128.size) ?_
    sl_unfold_run_names
    unfold newRows accOf
    dsimp only
    simp (discharger := decide) only [readAt_of_unread, readAt_of_stored_state, readAt_of_stored_nbr, readCov_of_stored_state, readCov_of_stored_acc, View.ld_unit_lit]
  isplitl [HS0]
  · iexists _; isplitr
    swap; · iexact HS0
    ipureintro
    refine (View.read_writes_full _ _ _ _ _).trans ?_
    sl_unfold_run_names
    simp (discharger := decide) only [readAt_of_unread, readAt_of_stored_state, readAt_of_stored_nbr, readCov_of_stored_state, readCov_of_stored_acc, View.ld_unit_lit]
  isplitl [HS1]
  · iexists _; isplitr
    swap; · iexact HS1
    ipureintro
    refine (View.read_writes_full _ _ _ _ _).trans ?_
    sl_unfold_run_names
    simp (discharger := decide) only [readAt_of_unread, readAt_of_stored_state, readAt_of_stored_nbr, readCov_of_stored_state, readCov_of_stored_acc, View.ld_unit_lit]
  isplitl [HS2]
  · iexists _; isplitr
    swap; · iexact HS2
    ipureintro
    refine (View.read_writes_full _ _ _ _ _).trans ?_
    sl_unfold_run_names
    simp (discharger := decide) only [readAt_of_unread, readAt_of_stored_state, readAt_of_stored_nbr, readCov_of_stored_state, readCov_of_stored_acc, View.ld_unit_lit]
  iexists _; iexists _; isplitr
  swap; · iexact HS3
  ipureintro; rfl

set_option maxHeartbeats 4000000 in
/-- The first point of a later step: the state is what the output buffer holds, the two terms are computed from it, and the point's rows are stored. -/
theorem run_next (Y h p : Vec F S512x128 .f32) (q : Vec F S256x128 .f32) (hc1 : cA i) (hc2 : ¬cB i) (hc3 : cC i) (hc4 : cD i) (hc5 : k0_cond5 i = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare Y ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare (VecWindow.put Y (k0_off4 i) S128x128.size (newRows i hc5 x1 x2 x5 x7 x8 x9 x10 x11 x12 (k0_pay9 Y) (k0_pay10 (k0_pay9 Y) x3 x6) (k0_pay11 (k0_pay9 Y) x4)))
          ∗ owns (c : Thread nD τ) arg17 fullShare (k0_pay9 Y) ∗ owns (c : Thread nD τ) arg18 fullShare (k0_pay10 (k0_pay9 Y) x3 x6) ∗ owns (c : Thread nD τ) arg19 fullShare (k0_pay11 (k0_pay9 Y) x4) ∗ (∃ d, owns (c : Thread nD τ) arg20 fullShare d)) -∗ K ⟨⟩))
      ⊢ wp frame (wpE (defs₀ (F := F)) Variants.none c none) E (cc0__mpnn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__mpnn_kernel_eq_skeleton]; unfold cc0__mpnn_kernel_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%ds0, %fs0, -, HS0⟩, ⟨%ds1, %fs1, -, HS1⟩, ⟨%ds2, %fs2, -, HS2⟩, ⟨%ds3, %fs3, -, HS3⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13
  sl_exec (disch := first | sl_exact hc1 | sl_exact hc2 | sl_exact hc3 | sl_exact hc4 | sl_exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr
    swap; · iexact H13
    ipureintro
    refine (View.read_writes_cons_put _ _ _ _ _ rfl).trans ?_
    rw [View.writes_nil, harg16.read_unread]
    refine congrArg (VecWindow.put Y (k0_off4 i) S128x128.size) ?_
    sl_unfold_run_names
    unfold newRows accOf
    dsimp only
    simp (discharger := decide) only [readAt_of_unread, readAt_of_stored_state, readAt_of_stored_nbr, readCov_of_stored_state, readCov_of_stored_acc, View.ld_unit_lit]
  isplitl [HS0]
  · iexists _; isplitr
    swap; · iexact HS0
    ipureintro
    refine (View.read_writes_full _ _ _ _ _).trans ?_
    sl_unfold_run_names
    simp (discharger := decide) only [readAt_of_unread, readAt_of_stored_state, readAt_of_stored_nbr, readCov_of_stored_state, readCov_of_stored_acc, View.ld_unit_lit]
  isplitl [HS1]
  · iexists _; isplitr
    swap; · iexact HS1
    ipureintro
    refine (View.read_writes_full _ _ _ _ _).trans ?_
    sl_unfold_run_names
    simp (discharger := decide) only [readAt_of_unread, readAt_of_stored_state, readAt_of_stored_nbr, readCov_of_stored_state, readCov_of_stored_acc, View.ld_unit_lit]
  isplitl [HS2]
  · iexists _; isplitr
    swap; · iexact HS2
    ipureintro
    refine (View.read_writes_full _ _ _ _ _).trans ?_
    sl_unfold_run_names
    simp (discharger := decide) only [readAt_of_unread, readAt_of_stored_state, readAt_of_stored_nbr, readCov_of_stored_state, readCov_of_stored_acc, View.ld_unit_lit]
  iexists _; iexists _; isplitr
  swap; · iexact HS3
  ipureintro; rfl

set_option maxHeartbeats 4000000 in
/-- A later point of a step: the state and the two terms stand, and the point's rows are stored. -/
theorem run_within (Y h p : Vec F S512x128 .f32) (q : Vec F S256x128 .f32) (hc1 : ¬cA i) (hc4 : cD i) (hc5 : k0_cond5 i = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare Y ∗ owns (c : Thread nD τ) arg17 fullShare h ∗ owns (c : Thread nD τ) arg18 fullShare p ∗ owns (c : Thread nD τ) arg19 fullShare q ∗ (∃ d, owns (c : Thread nD τ) arg20 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare (VecWindow.put Y (k0_off4 i) S128x128.size (newRows i hc5 x1 x2 x5 x7 x8 x9 x10 x11 x12 h p q))
          ∗ owns (c : Thread nD τ) arg17 fullShare h ∗ owns (c : Thread nD τ) arg18 fullShare p ∗ owns (c : Thread nD τ) arg19 fullShare q ∗ (∃ d, owns (c : Thread nD τ) arg20 fullShare d)) -∗ K ⟨⟩))
      ⊢ wp frame (wpE (defs₀ (F := F)) Variants.none c none) E (cc0__mpnn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__mpnn_kernel_eq_skeleton]; unfold cc0__mpnn_kernel_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fs0, %hs0, HS0⟩, ⟨%fs1, %hs1, HS1⟩, ⟨%fs2, %hs2, HS2⟩, ⟨%ds3, %fs3, -, HS3⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13
  obtain rfl := harg17.eq_unread hs0; obtain rfl := harg18.eq_unread hs1; obtain rfl := harg19.eq_unread hs2
  sl_exec (disch := first | sl_exact hc1 | sl_exact hc4 | sl_exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr
    swap; · iexact H13
    ipureintro
    refine (View.read_writes_cons_put _ _ _ _ _ rfl).trans ?_
    rw [View.writes_nil, harg16.read_unread]
    refine congrArg (VecWindow.put Y (k0_off4 i) S128x128.size) ?_
    sl_unfold_run_names
    unfold newRows accOf
    dsimp only
    simp (discharger := decide) only [readAt_of_unread, readAt_of_stored_state, readAt_of_stored_nbr, readCov_of_stored_state, readCov_of_stored_acc, View.ld_unit_lit]
  isplitl [HS0]
  · iexists _; isplitr
    swap; · iexact HS0
    ipureintro; exact harg17.read_unread _
  isplitl [HS1]
  · iexists _; isplitr
    swap; · iexact HS1
    ipureintro; exact harg18.read_unread _
  isplitl [HS2]
  · iexists _; isplitr
    swap; · iexact HS2
    ipureintro; exact harg19.read_unread _
  iexists _; iexists _; isplitr
  swap; · iexact HS3
  ipureintro; rfl

end Cert.KernelIdeal.Gen

end
-- ==== Proof.BodyKernelIdeal.lean ====
module

public import proofs.«01_k».proof.Proof.RunKernelIdeal
public import proofs.«01_k».proof.Proof.Gen.KernelIdeal.Frame
public import proofs.«01_k».proof.Proof.Gen.KernelIdeal.Points
public import Idealize.ShloMosaic.Lib.Pipeline.DatRel
public import Idealize.ShloMosaic.Lib.Pipeline.ArrRel

@[expose] public section

set_option maxRecDepth 16384

noncomputable section

/-! What the state and the output hold point by point, the body's obligation at every point, and the run of the whole program. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The grid's point number `n` (of twelve). -/
def pt (n : ℕ) : Fin cfg0.N := ⟨n % 12, Nat.lt_of_lt_of_eq (Nat.mod_lt _ (by decide)) N_0.symm⟩

theorem pt_val (t : Fin cfg0.N) : pt t.val = t :=
  Fin.ext (Nat.mod_eq_of_lt (Nat.lt_of_lt_of_eq t.isLt N_0))

theorem t_lt (t : Fin cfg0.N) : t.val < 12 := Nat.lt_of_lt_of_eq t.isLt N_0
/-- The step of a point, -/
theorem coord0 (t : Fin cfg0.N) : (grid0.coords t 0).val = t.val / 4 % 3 := Pipeline.Grid.coords_val t 0 (by decide) rfl
/-- its row block, -/
theorem coord1 (t : Fin cfg0.N) : (grid0.coords t 1).val = t.val / 1 % 4 := Pipeline.Grid.coords_val t 1 (by decide) rfl
/-- and its neighbour block. -/
theorem coord2 (t : Fin cfg0.N) : (grid0.coords t 2).val = t.val / 1 % 1 := Pipeline.Grid.coords_val t 2 (by decide) rfl

theorem cA_iff (t : Fin cfg0.N) : cA (grid0.coords t) ↔ t.val % 4 = 0 := by
  have ht := t_lt t
  have e1 := coord1 t; have e2 := coord2 t
  simp only [cA, e1, e2]; word_cmp
theorem cB_iff (t : Fin cfg0.N) : cB (grid0.coords t) ↔ t.val < 4 := by
  have ht := t_lt t
  have e0 := coord0 t
  simp only [cB, e0]; word_cmp
theorem cC_iff (t : Fin cfg0.N) : cC (grid0.coords t) ↔ 4 ≤ t.val := by
  have ht := t_lt t
  have e0 := coord0 t
  simp only [cC, e0]; word_cmp
theorem cD_all (t : Fin cfg0.N) : cD (grid0.coords t) := by
  have e2 := coord2 t
  simp only [cD, e2]; word_cmp
theorem cE_all (t : Fin cfg0.N) : k0_cond5 (grid0.coords t) = 1#1 := by
  have e2 := coord2 t
  simp only [k0_cond5, e2]; word_cmp

/-! ## The state, step by step -/

/-- The per-row term of a step, from the state. -/
def pOf (c : Dev nD) (s : ℕ) (h : Vec F S512x128 .f32) : Vec F S512x128 .f32 := k0_pay10 h (iblk m c 3 (pt (4 * s))) (iblk m c 6 (pt (4 * s)))
/-- The per-neighbour term of a step, from the state. -/
def qOf (c : Dev nD) (s : ℕ) (h : Vec F S512x128 .f32) : Vec F S256x128 .f32 := k0_pay11 h (iblk m c 4 (pt (4 * s)))
/-- The rows that point `t` of step `s` stores, from the step's state. -/
def rowsOf (c : Dev nD) (s : ℕ) (t : Fin cfg0.N) (h : Vec F S512x128 .f32) : Vec F S128x128 .f32 :=
  newRows (grid0.coords t) (cE_all t) (iblk m c 1 t) (iblk m c 2 t) (iblk m c 5 t) (iblk m c 7 t) (iblk m c 8 t) (iblk m c 9 t) (iblk m c 10 t) (iblk m c 11 t) (iblk m c 12 t) h (pOf m c s h) (qOf m c s h)
/-- A row of the whole array within its block of 128. -/
def rowIn (y : S512x128.Idx) : S128x128.Idx := fun a => match a with
  | ⟨0, _⟩ => ⟨(y 0).val % 128, Nat.mod_lt _ (by decide)⟩
  | ⟨1, _⟩ => y 1
/-- What the output holds after step `s`, from the step's state: each row block from its own point. -/
def stepOf (c : Dev nD) (s : ℕ) (h : Vec F S512x128 .f32) : Vec F S512x128 .f32 := fun y =>
  rowsOf m c s (pt (4 * s + (y 0).val / 128)) h (rowIn y)
/-- The state of step `s`: the input at step 0, then what the step before left in the output. -/
def hAt (c : Dev nD) : ℕ → Vec F S512x128 .f32
  | 0 => k0_pay8 (iblk m c 0 (pt 0))
  | s + 1 => k0_pay9 (stepOf m c s (hAt c s))
/-- What the output holds after step `s`. -/
def outAt (c : Dev nD) (s : ℕ) : Vec F S512x128 .f32 := stepOf m c s (hAt m c s)

theorem hAt_zero (c : Dev nD) : hAt m c 0 = k0_pay8 (iblk m c 0 (pt 0)) := rfl
theorem hAt_succ (c : Dev nD) (s : ℕ) : hAt m c (s + 1) = k0_pay9 (outAt m c s) := rfl
theorem outAt_eq (c : Dev nD) (s : ℕ) : outAt m c s = stepOf m c s (hAt m c s) := rfl

/-- The output's buffer after point `t`: the rows of this step's blocks so far. -/
def OutRel (c : Dev nD) (t : Fin cfg0.N) (X : Vec F S512x128 .f32) : Prop :=
  ∀ y : S512x128.Idx, (y 0).val < 128 * (t.val % 4 + 1) → X y = outAt m c (t.val / 4) y

/-- After a step's last point the output's buffer holds the step's rows. -/
theorem OutRel.last {c : Dev nD} {t : Fin cfg0.N} {X : Vec F S512x128 .f32} (h : OutRel m c t X) (ht : t.val % 4 = 3) : X = outAt m c (t.val / 4) :=
  funext fun y => h y (by rw [ht]; exact (y 0).isLt)

/-- One point extends the relation by its row block. -/
theorem OutRel.put {c : Dev nD} {t : Fin cfg0.N} {Y : Vec F S512x128 .f32}
    (hY : t.val % 4 ≠ 0 → ∀ t' : Fin cfg0.N, t'.val + 1 = t.val → OutRel m c t' Y) (h : Vec F S512x128 .f32) (hh : h = hAt m c (t.val / 4)) :
    OutRel m c t (VecWindow.put Y (k0_off4 (grid0.coords t)) S128x128.size (rowsOf m c (t.val / 4) t h)) := by
  intro y hy
  have ht := t_lt t
  have e1 := coord1 t
  rw [Nat.div_one] at e1
  have ho : k0_off4 (grid0.coords t) = ![128 * (grid0.coords t 1).val, 0] := k0_off4_eq _
  have o0 : k0_off4 (grid0.coords t) 0 = 128 * (t.val % 4) := by rw [ho, ← e1]; rfl
  have o1 : k0_off4 (grid0.coords t) 1 = 0 := by rw [ho]; rfl
  have y0 : (y 0).val < 512 := (y 0).isLt
  have y1 : (y 1).val < 128 := (y 1).isLt
  unfold VecWindow.put
  by_cases hb : 128 * (t.val % 4) ≤ (y 0).val
  · have hin : ∀ a, k0_off4 (grid0.coords t) a ≤ (y a).val ∧ (y a).val < k0_off4 (grid0.coords t) a + S128x128.size a := by
      intro a; match a with
      | ⟨0, _⟩ =>
        show k0_off4 (grid0.coords t) 0 ≤ (y 0).val ∧ (y 0).val < k0_off4 (grid0.coords t) 0 + 128
        rw [o0]; omega
      | ⟨1, _⟩ =>
        show k0_off4 (grid0.coords t) 1 ≤ (y 1).val ∧ (y 1).val < k0_off4 (grid0.coords t) 1 + 128
        rw [o1]; omega
    rw [dif_pos hin]
    unfold outAt stepOf
    have hq : (y 0).val / 128 = t.val % 4 := by omega
    have hp : pt (4 * (t.val / 4) + (y 0).val / 128) = t := by
      rw [hq, Nat.div_add_mod]; exact pt_val t
    rw [hp, hh]
    refine congrArg _ (funext fun a => ?_)
    match a with
    | ⟨0, _⟩ =>
      refine Fin.ext ?_
      show (y 0).val - k0_off4 (grid0.coords t) 0 = (y 0).val % 128
      rw [o0]; omega
    | ⟨1, _⟩ =>
      refine Fin.ext ?_
      show (y 1).val - k0_off4 (grid0.coords t) 1 = (y 1).val
      rw [o1]; omega
  · have hnin : ¬∀ a, k0_off4 (grid0.coords t) a ≤ (y a).val ∧ (y a).val < k0_off4 (grid0.coords t) a + S128x128.size a := by
      intro hall; have := (hall 0).1; rw [o0] at this; exact hb this
    rw [dif_neg hnin]
    have hne : t.val % 4 ≠ 0 := fun e => hb (by rw [e]; exact Nat.zero_le _)
    have := hY hne ⟨t.val - 1, by omega⟩ (show t.val - 1 + 1 = t.val by omega) y (show (y 0).val < 128 * ((t.val - 1) % 4 + 1) by omega)
    rw [this, show (t.val - 1) / 4 = t.val / 4 by omega]

/-! ## The pipeline's proof data -/

abbrev scM0 : Memref sig .tc .vmem S512x128 .f32 := Memref.whole cc0_scratch0
abbrev scM1 : Memref sig .tc .vmem S512x128 .f32 := Memref.whole cc0_scratch1
abbrev scM2 : Memref sig .tc .vmem S256x128 .f32 := Memref.whole cc0_scratch2
abbrev scM3 : Memref sig .tc .vmem S128x128 .f32 := Memref.whole cc0_scratch3

/-- Between points: the state and the two terms of the last point's step, the accumulator at anything, and the generator register. -/
def Mid (c : Dev nD) (s : ℕ) : sProp 𝕄 :=
  iprop(iprop(owns (c : Thread nD τ) scM0 fullShare (hAt m c s) ∗ owns (c : Thread nD τ) scM1 fullShare (pOf m c s (hAt m c s)) ∗ owns (c : Thread nD τ) scM2 fullShare (qOf m c s (hAt m c s)) ∗ (∃ d, owns (c : Thread nD τ) scM3 fullShare d)) ∗ (∃ r, prngReg c r))

/-- The invariant before position `n`. -/
def PhiN (c : Dev nD) (n : ℕ) : sProp 𝕄 := if n = 0 then Pipeline.ΦA spec0 c else Mid m c ((n - 1) / 4)

theorem PhiN_zero (c : Dev nD) : PhiN m c 0 = Pipeline.ΦA spec0 c := if_pos rfl
theorem PhiN_pos (c : Dev nD) {n : ℕ} (h : n ≠ 0) : PhiN m c n = Mid m c ((n - 1) / 4) := if_neg h
theorem PhiN_succ (c : Dev nD) (n : ℕ) : PhiN m c (n + 1) = Mid m c (n / 4) := if_neg (Nat.succ_ne_zero n)

/-- What the launch hands over, spelled out: every scratch at anything and the generator register. -/
theorem PhiA_eq (c : Dev nD) : (Pipeline.ΦA spec0 c : sProp 𝕄)
    = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]
  simp only [scM0, scM1, scM2, scM3, owns_whole]
  try rfl

/-- The proof data: every input's buffer at its block, the output's left to the relation. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outAt m c (t.val / 4)
  Φ t := PhiN m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d

/-- The one output is the marked window. -/
def fgt : Fin cfg0.W → Bool := fun w => w == 13
/-- What the marked window's buffer is held to. -/
def Rl (c : Dev nD) (w : Fin cfg0.W) (t : Fin cfg0.N) (X : (cfg0.win w).block.Idx → Elt F (cfg0.win w).elt) : Prop := match w with
  | ⟨13, _⟩ => OutRel m c t X
  | _ => True

/-- The relational data of the run. -/
abbrev rdat (c : Dev nD) : Pipeline.RDat τ (Elt F) Unit ℕ (UR sig nD τ) ℕ cfg0 c := (dats m 0 c).toRRel fgt (Rl m c)

/-- What the output's buffer may hold when a point after the first begins: something the point before left there. -/
theorem finds_out (c : Dev nD) (t : Fin cfg0.N) (ht : t.val ≠ 0) (Y : Vec F S512x128 .f32) (h : (rdat m c).Finds 13 t Y) :
    ∀ t' : Fin cfg0.N, t'.val + 1 = t.val → OutRel m c t' Y := by
  intro t' e
  have hN := t_lt t
  have e' : (⟨t.val - 1, Nat.lt_of_le_of_lt (Nat.sub_le _ _) t.isLt⟩ : Fin cfg0.N) = t' := Fin.ext (by show t.val - 1 = t'.val; omega)
  rcases (Pipeline.RDat.finds_of_pos (rdat m c) (w := 13) rfl ht Y).mp h with hf | hl
  · rw [e'] at hf
    have := (flush0_13 t').mp hf
    exfalso; omega
  · rw [e'] at hl
    exact (dats m 0 c).toRRel_leaves (Rl := Rl m c) (w := 13) rfl hl

/-! ## The body's obligation -/
abbrev ms_0 (t : Fin cfg0.N) := win0_0.stage (cfg0.slots t 0)
abbrev hs_0 (t : Fin cfg0.N) : (ms_0 t).IsWhole := hstage0_0 ((cfg0.slots t 0).cast nbuf0_0)
abbrev ms_1 (t : Fin cfg0.N) := win0_1.stage (cfg0.slots t 1)
abbrev hs_1 (t : Fin cfg0.N) : (ms_1 t).IsWhole := hstage0_1 ((cfg0.slots t 1).cast nbuf0_1)
abbrev ms_2 (t : Fin cfg0.N) := win0_2.stage (cfg0.slots t 2)
abbrev hs_2 (t : Fin cfg0.N) : (ms_2 t).IsWhole := hstage0_2 ((cfg0.slots t 2).cast nbuf0_2)
abbrev ms_3 (t : Fin cfg0.N) := win0_3.stage (cfg0.slots t 3)
abbrev hs_3 (t : Fin cfg0.N) : (ms_3 t).IsWhole := hstage0_3 ((cfg0.slots t 3).cast nbuf0_3)
abbrev ms_4 (t : Fin cfg0.N) := win0_4.stage (cfg0.slots t 4)
abbrev hs_4 (t : Fin cfg0.N) : (ms_4 t).IsWhole := hstage0_4 ((cfg0.slots t 4).cast nbuf0_4)
abbrev ms_5 (t : Fin cfg0.N) := win0_5.stage (cfg0.slots t 5)
abbrev hs_5 (t : Fin cfg0.N) : (ms_5 t).IsWhole := hstage0_5 ((cfg0.slots t 5).cast nbuf0_5)
abbrev ms_6 (t : Fin cfg0.N) := win0_6.stage (cfg0.slots t 6)
abbrev hs_6 (t : Fin cfg0.N) : (ms_6 t).IsWhole := hstage0_6 ((cfg0.slots t 6).cast nbuf0_6)
abbrev ms_7 (t : Fin cfg0.N) := win0_7.stage (cfg0.slots t 7)
abbrev hs_7 (t : Fin cfg0.N) : (ms_7 t).IsWhole := hstage0_7 ((cfg0.slots t 7).cast nbuf0_7)
abbrev ms_8 (t : Fin cfg0.N) := win0_8.stage (cfg0.slots t 8)
abbrev hs_8 (t : Fin cfg0.N) : (ms_8 t).IsWhole := hstage0_8 ((cfg0.slots t 8).cast nbuf0_8)
abbrev ms_9 (t : Fin cfg0.N) := win0_9.stage (cfg0.slots t 9)
abbrev hs_9 (t : Fin cfg0.N) : (ms_9 t).IsWhole := hstage0_9 ((cfg0.slots t 9).cast nbuf0_9)
abbrev ms_10 (t : Fin cfg0.N) := win0_10.stage (cfg0.slots t 10)
abbrev hs_10 (t : Fin cfg0.N) : (ms_10 t).IsWhole := hstage0_10 ((cfg0.slots t 10).cast nbuf0_10)
abbrev ms_11 (t : Fin cfg0.N) := win0_11.stage (cfg0.slots t 11)
abbrev hs_11 (t : Fin cfg0.N) : (ms_11 t).IsWhole := hstage0_11 ((cfg0.slots t 11).cast nbuf0_11)
abbrev ms_12 (t : Fin cfg0.N) := win0_12.stage (cfg0.slots t 12)
abbrev hs_12 (t : Fin cfg0.N) : (ms_12 t).IsWhole := hstage0_12 ((cfg0.slots t 12).cast nbuf0_12)
abbrev ms_13 (t : Fin cfg0.N) := win0_13.stage (cfg0.slots t 13)
abbrev hs_13 (t : Fin cfg0.N) : (ms_13 t).IsWhole := hstage0_13 ((cfg0.slots t 13).cast nbuf0_13)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ Y, ⌜(rdat m c).Finds 13 t Y⌝ ∗ owns (c : Thread nD τ) (ms_13 t) fullShare Y))
/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t)
    ∗ owns (c : Thread nD τ) (ms_11 t) fullShare ((dats m 0 c).after 11 t)
    ∗ owns (c : Thread nD τ) (ms_12 t) fullShare ((dats m 0 c).after 12 t)
    ∗ (∃ X, ⌜OutRel m c t X⌝ ∗ owns (c : Thread nD τ) (ms_13 t) fullShare X))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, after_0, before_1, after_1, before_2, after_2, before_3, after_3, before_4, after_4, before_5, after_5, before_6, after_6, before_7, after_7, before_8, after_8, before_9, after_9, before_10, after_10, before_11, after_11, before_12, after_12]
  rw [show (dats m 0 c).owesAt () t.succ = (dats m 0 c).owesAt () t.castSucc from rfl]
  rw [show (dats m 0 c).Φ t.succ = PhiN m c (t.val + 1) from rfl, show (dats m 0 c).Φ t.castSucc = PhiN m c t.val from rfl, PhiN_succ]
  have hN := t_lt t
  unfold Mid
  by_cases h0 : t.val = 0
  · rw [h0, PhiN_zero, PhiA_eq]
    have hs : hAt m c (0 / 4) = k0_pay8 (iblk m c 0 t) := by rw [show t = pt 0 from Fin.ext h0]; exact hAt_zero m c
    have hp : pOf m c (0 / 4) (hAt m c (0 / 4)) = k0_pay10 (hAt m c (0 / 4)) (iblk m c 3 t) (iblk m c 6 t) := by rw [show t = pt 0 from Fin.ext h0]; rfl
    have hq : qOf m c (0 / 4) (hAt m c (0 / 4)) = k0_pay11 (hAt m c (0 / 4)) (iblk m c 4 t) := by rw [show t = pt 0 from Fin.ext h0]; rfl
    rw [hp, hq, hs]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%Y, %hY, H13⟩⟩
    iapply (run_first c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Y Y Y (qOf m c 0 Y) ((cA_iff t).mpr (by omega)) ((cB_iff t).mpr (by omega)) (fun h => absurd ((cC_iff t).mp h) (by omega)) (cD_all t) (cE_all t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists _; isplitr
    swap; · iexact H13
    ipureintro
    have hR := OutRel.put m (c := c) (t := t) (Y := Y) (fun h => absurd (by rw [h0]) h) (k0_pay8 (iblk m c 0 t)) (by rw [h0]; exact hs.symm)
    unfold rowsOf at hR
    rw [h0] at hR
    rw [hs] at hp hq
    rw [hp, hq] at hR
    exact hR
  · rw [PhiN_pos m c h0]
    unfold Mid
    by_cases hA : t.val % 4 = 0
    · obtain ⟨s, hs4⟩ : ∃ s, t.val / 4 = s + 1 := ⟨t.val / 4 - 1, by omega⟩
      have hsp : (t.val - 1) / 4 = s := by omega
      have htt : t = pt (4 * (s + 1)) := by rw [show 4 * (s + 1) = t.val by omega]; exact (pt_val t).symm
      rw [hsp, hs4]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%Y, %hY, H13⟩⟩
      have hYs : Y = outAt m c s := by
        have := finds_out m c t h0 Y hY ⟨t.val - 1, by omega⟩ (show t.val - 1 + 1 = t.val by omega)
        have := this.last m (show (t.val - 1) % 4 = 3 by omega)
        rw [this]; show outAt m c ((t.val - 1) / 4) = _; rw [hsp]
      have hs : hAt m c (s + 1) = k0_pay9 Y := by rw [hYs]; exact hAt_succ m c s
      have hp : pOf m c (s + 1) (hAt m c (s + 1)) = k0_pay10 (hAt m c (s + 1)) (iblk m c 3 t) (iblk m c 6 t) := by rw [htt]; rfl
      have hq : qOf m c (s + 1) (hAt m c (s + 1)) = k0_pay11 (hAt m c (s + 1)) (iblk m c 4 t) := by rw [htt]; rfl
      rw [hp, hq, hs]
      iapply (run_next c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Y Y Y (qOf m c 0 Y) ((cA_iff t).mpr hA) (fun h => absurd ((cB_iff t).mp h) (by omega)) ((cC_iff t).mpr (by omega)) (cD_all t) (cE_all t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexists _; iexact HS0
      isplitl [HS1]; · iexists _; iexact HS1
      isplitl [HS2]; · iexists _; iexact HS2
      isplitl [HS3]; · iexact HS3
      iintro ⟨H0, H1, H2, H3, H4, H5, H6, H7, H8, H9, H10, H11, H12, H13, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexists _; isplitr
      swap; · iexact H13
      ipureintro
      have hR := OutRel.put m (c := c) (t := t) (Y := Y) (fun h => absurd hA h) (k0_pay9 Y) (by rw [hs4]; exact hs.symm)
      unfold rowsOf at hR
      rw [hs4] at hR
      rw [hs] at hp hq
      rw [hp, hq] at hR
      exact hR
    · have hsp : (t.val - 1) / 4 = t.val / 4 := by omega
      rw [hsp]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%Y, %hY, H13⟩⟩
      iapply (run_within c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Y (hAt m c (t.val / 4)) (pOf m c (t.val / 4) (hAt m c (t.val / 4))) (qOf m c (t.val / 4) (hAt m c (t.val / 4))) (fun h => hA ((cA_iff t).mp h)) (cD_all t) (cE_all t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexists _; isplitr
      swap; · iexact H13
      ipureintro
      exact OutRel.put m (c := c) (t := t) (Y := Y) (fun _ => finds_out m c t h0 Y hY) (hAt m c (t.val / 4)) rfl

theorem defs₀_row (t : Fin cfg0.N) : (defs₀ (F := F)) .tc cfg0.body (cfg0.bodyArgs t (cfg0.slots t)) = bodyAt0 t := by
  unfold defs₀; rw [Defs.onTc_tc]

/-- The body's obligation, the output's buffer held to the relation. -/
theorem body_obligation (c : Dev nD) : Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiN m c 0 from rfl, PhiN_zero m c]

theorem hout (c : Dev nD) : (dats m 0 c).Φ (Fin.last cfg0.N) ⊢ Pipeline.ΦA spec0 c := by
  rw [show (dats m 0 c).Φ (Fin.last cfg0.N) = PhiN m c (Fin.last cfg0.N).val from rfl,
    PhiN_pos m c (by rw [Fin.val_last]; have : cfg0.N = 12 := N_0; omega), PhiA_eq]
  unfold Mid
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexact HS3
  iexact Hg

/-! ## The run -/

section
attribute [local irreducible] PhiN Mid outAt hAt OutRel

set_option backward.isDefEq.respectTransparency.types false in
/-- The whole program from any memory with zero counters: it terminates, its arrays end as the relational data say, and every counter is zero. -/
theorem run_main_quiescent : θ_run defs (onTc (τ := τ) (main (F := F))) (s₀ m ρ) (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c w => (dats m 0 c).share_full (fun _ => rfl) w)
    (howed := fun _ _ => rfl) (V := V m) (hmain := hmain m Variants.none) (hA := A_eq m) (hin := hin m) (hout := hout m)
end

end Cert.KernelIdeal.Gen

end
-- ==== Proof.LaunchKernelIdeal.lean ====
module

public import proofs.«01_k».proof.Proof.BodyKernelIdeal

@[expose] public section

set_option maxRecDepth 16384

noncomputable section

/-! The program's frame, and what its result array holds. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A run's post leaves the argument arrays as they were. -/
theorem args_of (r : PUnit × MemSt nD τ sig (Elt F)) (h : Pipeline.RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩

/-- The frame: the program terminates from any memory with zero counters, its argument arrays unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => args_of m r h.1 c, h.2⟩) (run_main_quiescent m ρ)

/-- An array written back whole at one point, off a run's post: something the body may have left there. -/
theorem out_of {cfg₁ : Cfg sig Λ₀} {U' : Type} [URA U'] {rd : (c : Dev nD) → Pipeline.RDat τ (Elt F) Unit ℕ U' ℕ cfg₁ c} [∀ e, Nonempty (Elt F e)]
    {W : (c : Dev nD) → (b : Ref sig .tc) → Buf (Elt F) ((c.tc : Thread nD τ).loc b)} {r : PUnit × MemSt nD τ sig (Elt F)}
    (h : Pipeline.RDat.FramePost cfg₁ rd W r) (c : Dev nD) (w : Fin cfg₁.W) (t₀ : Fin cfg₁.N) (hw : (cfg₁.win w).WholeAt t₀) :
    ∃ X, (rd c).Leaves w t₀ X ∧ ∀ j : (cfg₁.win w).shape.Idx,
      r.2.mem ((cfg₁.spec w).arr.view.loc (c.tc : Thread nD τ)) ((cfg₁.win w).arr.view.emb j)
        = _root_.cast (congrArg (Elt F) (cfg₁.win w).arr.view.elt_eq.symm) (X fun a => ⟨j a, hw.lt_size j a⟩) :=
  Pipeline.RDat.ArrAt.emb_eq_of_wholeAt ((h c).1 w) hw

/-- The result array ends at what the third step leaves. -/
theorem out_eq [∀ e, Nonempty (Elt F e)] (r : PUnit × MemSt nD τ sig (Elt F)) (h : Pipeline.RDat.FramePost cfg0 (rdat m) (V m) r) (c : Dev nD) :
    r.2.mem ((c.tc : Thread nD τ).loc main_v55) = outAt m c 2 := by
  obtain ⟨X, hX, hj⟩ := out_of h c 13 t0_11 (by decide +kernel)
  have hR : OutRel m c t0_11 X := (dats m 0 c).toRRel_leaves (Rl := Rl m c) (w := 13) rfl hX
  have hL : X = outAt m c 2 := hR.last m (c := c) (t := t0_11) rfl
  funext j
  rw [← hL]
  exact hj j

end Cert.KernelIdeal.Gen

end
-- ==== Proof.Model.lean ====
module

public import Idealize.ShloMosaic.Lib.Pointwise
public import Idealize.ShloMosaic.Lib.IdealHost

@[expose] public section

noncomputable section

/-! The network over the extended reals, in two forms: the plain formula, and the packed form that the kernel sums.
    The two agree where the states, edge features, first weights and first bias are reals of size at most 1000. -/

namespace Cert.Net

open Idealize.ShloMosaic

abbrev A1 (a : ℕ) : Type := (⟨1, ![a]⟩ : Shape).Idx → EReal
abbrev A2 (a b : ℕ) : Type := (⟨2, ![a, b]⟩ : Shape).Idx → EReal
abbrev A3 (a b c : ℕ) : Type := (⟨3, ![a, b, c]⟩ : Shape).Idx → EReal

/-- The network's inputs other than the node states. -/
structure Params where
  A : A2 512 512
  E : A3 512 512 16
  W1 : A2 64 272
  b1 : A1 64
  W2 : A2 64 64
  b2 : A1 64
  Wih : A2 384 64
  Whh : A2 384 128
  bih : A1 384
  bhh : A1 384

/-- An edge's weight: 1 where the adjacency entry is positive, else 0. -/
def edge (a : EReal) : EReal := if 0 < a then 1 else 0

/-- The receiving node's part of the first layer. -/
def preI (N : Params) (H : A2 512 128) (i : Fin 512) (n : Fin 64) : EReal :=
  ∑ k : Fin 128, H (ix2 i k) * N.W1 (ix2 n ⟨k.val, by omega⟩)
/-- The sending node's part of the first layer. -/
def preJ (N : Params) (H : A2 512 128) (j : Fin 512) (n : Fin 64) : EReal :=
  ∑ k : Fin 128, H (ix2 j k) * N.W1 (ix2 n ⟨128 + k.val, by omega⟩)
/-- The edge's part of the first layer. -/
def preE (N : Params) (i j : Fin 512) (n : Fin 64) : EReal :=
  ∑ e : Fin 16, N.E (ix3 i j e) * N.W1 (ix2 n ⟨256 + e.val, by omega⟩)
/-- The first layer before its rectifier. -/
def pre (N : Params) (H : A2 512 128) (i j : Fin 512) (n : Fin 64) : EReal :=
  preI N H i n + preJ N H j n + preE N i j n + N.b1 (ix1 n)
/-- The second layer without its bias. -/
def lin (N : Params) (H : A2 512 128) (i j : Fin 512) (n : Fin 64) : EReal :=
  ∑ k : Fin 64, max (pre N H i j k) 0 * N.W2 (ix2 n k)
/-- The messages into a node, summed over its edges. -/
def agg (N : Params) (H : A2 512 128) (i : Fin 512) (n : Fin 64) : EReal :=
  ∑ j : Fin 512, (lin N H i j n + N.b2 (ix1 n)) * edge (N.A (ix2 i j))
/-- The gates' inputs from a message. -/
def gateI (N : Params) (M : Fin 64 → EReal) (c : Fin 384) : EReal :=
  (∑ k : Fin 64, M k * N.Wih (ix2 c k)) + N.bih (ix1 c)
/-- The gates' inputs from a state. -/
def gateH (N : Params) (h : Fin 128 → EReal) (c : Fin 384) : EReal :=
  (∑ k : Fin 128, h k * N.Whh (ix2 c k)) + N.bhh (ix1 c)
/-- The gated update of one state entry. -/
def gru (gi gh : Fin 384 → EReal) (h : EReal) (n : Fin 128) : EReal :=
  (1 - Ideal.logistic (gi ⟨128 + n.val, by omega⟩ + gh ⟨128 + n.val, by omega⟩))
      * Ideal.tanh (gi ⟨256 + n.val, by omega⟩
          + Ideal.logistic (gi ⟨n.val, by omega⟩ + gh ⟨n.val, by omega⟩) * gh ⟨256 + n.val, by omega⟩)
    + Ideal.logistic (gi ⟨128 + n.val, by omega⟩ + gh ⟨128 + n.val, by omega⟩) * h
/-- One step of the network. -/
def step (N : Params) (H : A2 512 128) : A2 512 128 := fun y =>
  gru (gateI N (agg N H (y 0))) (gateH N fun k => H (ix2 (y 0) k)) (H y) (y 1)
/-- The states after a number of steps. -/
def state (N : Params) (X : A2 512 128) : ℕ → A2 512 128
  | 0 => X
  | s + 1 => step N (state N X s)

/-- The mask's weight in the packed first layer. -/
def big : EReal := Ideal.ofBits .f32 0x4E6E6B28#32
/-- The packed first layer: an absent edge is pushed down by `big`. -/
def kpre (N : Params) (H : A2 512 128) (i j : Fin 512) (n : Fin 64) : EReal :=
  (preE N i j n + (edge (N.A (ix2 i j)) - 1) * big) + (preI N H i n + N.b1 (ix1 n)) + preJ N H j n
/-- The packed second layer without its bias. -/
def klin (N : Params) (H : A2 512 128) (i j : Fin 512) (n : Fin 64) : EReal :=
  ∑ k : Fin 64, max (kpre N H i j k) 0 * N.W2 (ix2 n k)
/-- The packed messages into a node: the bias enters once, times the node's degree. -/
def kagg (N : Params) (H : A2 512 128) (i : Fin 512) (n : Fin 64) : EReal :=
  (∑ j : Fin 512, klin N H i j n) + (∑ j : Fin 512, edge (N.A (ix2 i j))) * N.b2 (ix1 n)
/-- One step in the packed form. -/
def kstep (N : Params) (H : A2 512 128) : A2 512 128 := fun y =>
  gru (gateI N (kagg N H (y 0))) (gateH N fun k => H (ix2 (y 0) k)) (H y) (y 1)

/-! ## Bounds -/

/-- `x` is a real of size at most `c`. -/
def Bd (c : ℝ) (x : EReal) : Prop := ∃ r : ℝ, x = (r : EReal) ∧ |r| ≤ c

theorem Bd.mono {c d : ℝ} {x : EReal} (h : Bd c x) (hcd : c ≤ d) : Bd d x :=
  let ⟨r, e, b⟩ := h; ⟨r, e, b.trans hcd⟩

theorem Bd.add {c d : ℝ} {x y : EReal} (hx : Bd c x) (hy : Bd d y) : Bd (c + d) (x + y) := by
  obtain ⟨r, rfl, hr⟩ := hx
  obtain ⟨s, rfl, hs⟩ := hy
  exact ⟨r + s, (EReal.coe_add r s).symm, (abs_add_le r s).trans (add_le_add hr hs)⟩

theorem Bd.mul {c d : ℝ} {x y : EReal} (hx : Bd c x) (hy : Bd d y) : Bd (c * d) (x * y) := by
  obtain ⟨r, rfl, hr⟩ := hx
  obtain ⟨s, rfl, hs⟩ := hy
  refine ⟨r * s, (EReal.coe_mul r s).symm, ?_⟩
  rw [abs_mul]
  exact mul_le_mul hr hs (abs_nonneg s) ((abs_nonneg r).trans hr)

theorem Bd.sum {c : ℝ} : ∀ {n : ℕ} (f : Fin n → EReal), (∀ i, Bd c (f i)) → Bd (n * c) (∑ i, f i)
  | 0, f, _ => ⟨0, by simp, by simp⟩
  | n + 1, f, h => by
    rw [Fin.sum_univ_succ]
    refine ((h 0).add (Bd.sum (fun i => f i.succ) fun i => h i.succ)).mono (le_of_eq ?_)
    push_cast; ring

/-- The bound on the inputs that the packed mask needs. -/
structure Bounded (N : Params) : Prop where
  E : ∀ y, Bd 1000 (N.E y)
  W1 : ∀ y, Bd 1000 (N.W1 y)
  b1 : ∀ y, Bd 1000 (N.b1 y)

/-- The first layer stays below the mask's weight. -/
theorem pre_bd {N : Params} (hN : Bounded N) {H : A2 512 128} (hH : ∀ y, Bd 1000 (H y)) (i j : Fin 512) (n : Fin 64) :
    Bd 1000000000 (pre N H i j n) := by
  have h1 : Bd _ (preI N H i n) := Bd.sum _ fun k => (hH (ix2 i k)).mul (hN.W1 (ix2 n ⟨k.val, by omega⟩))
  have h2 : Bd _ (preJ N H j n) := Bd.sum _ fun k => (hH (ix2 j k)).mul (hN.W1 (ix2 n ⟨128 + k.val, by omega⟩))
  have h3 : Bd _ (preE N i j n) := Bd.sum _ fun e => (hN.E (ix3 i j e)).mul (hN.W1 (ix2 n ⟨256 + e.val, by omega⟩))
  exact (((h1.add h2).add h3).add (hN.b1 (ix1 n))).mono (by norm_num)

theorem big_eq : big = ((1000000000 : ℝ) : EReal) := by
  unfold big
  simp [Ideal.ofBits, Ideal.ieee, -EReal.coe_mul]; norm_num

/-- A bounded value lowered by the mask's weight is cut to zero. -/
theorem masked {x : EReal} (hx : Bd 1000000000 x) : max (x + (0 - 1) * big) 0 = 0 := by
  obtain ⟨r, rfl, hr⟩ := hx
  have e : ((0 : EReal) - 1) * big = ((-1000000000 : ℝ) : EReal) := by
    rw [big_eq, show ((0 : EReal) - 1) = ((-1 : ℝ) : EReal) by norm_cast; simp, ← EReal.coe_mul]; norm_num
  rw [e, ← EReal.coe_add]
  refine max_eq_right ?_
  rw [← EReal.coe_zero, EReal.coe_le_coe_iff]
  linarith [(abs_le.mp hr).2]

/-! ## The two forms agree -/

theorem one_sub_one : (1 : EReal) - 1 = 0 := by
  rw [← EReal.coe_one, ← EReal.coe_sub, sub_self, EReal.coe_zero]

theorem edge_cases (a : EReal) : edge a = 1 ∨ edge a = 0 := by
  unfold edge; split <;> simp

theorem edge_nonneg (a : EReal) : 0 ≤ edge a := by
  rcases edge_cases a with h | h <;> rw [h]; exact zero_le_one

theorem kpre_of_edge {N : Params} {H : A2 512 128} {i j : Fin 512} (n : Fin 64) (h : edge (N.A (ix2 i j)) = 1) :
    kpre N H i j n = pre N H i j n := by
  unfold kpre pre
  rw [h, one_sub_one, zero_mul, add_zero]
  ac_rfl

theorem kpre_of_no_edge {N : Params} {H : A2 512 128} {i j : Fin 512} (n : Fin 64) (h : edge (N.A (ix2 i j)) = 0) :
    kpre N H i j n = pre N H i j n + (0 - 1) * big := by
  unfold kpre pre
  rw [h]
  ac_rfl

/-- The packed second layer is the plain one times the edge's weight. -/
theorem klin_eq {N : Params} (hN : Bounded N) {H : A2 512 128} (hH : ∀ y, Bd 1000 (H y)) (i j : Fin 512) (n : Fin 64) :
    klin N H i j n = lin N H i j n * edge (N.A (ix2 i j)) := by
  unfold klin lin
  rcases edge_cases (N.A (ix2 i j)) with h | h
  · simp only [kpre_of_edge _ h, h, mul_one]
  · rw [h, mul_zero]
    refine Finset.sum_eq_zero fun k _ => ?_
    rw [kpre_of_no_edge k h, masked (pre_bd hN hH i j k), zero_mul]

/-- A sum of nonnegative terms times any extended real is the sum of the products. -/
theorem sum_mul_of_nonneg {ι : Type} (s : Finset ι) (f : ι → EReal) (hf : ∀ i, 0 ≤ f i) (b : EReal) :
    (∑ i ∈ s, f i) * b = ∑ i ∈ s, f i * b := by
  classical
  induction s using Finset.induction_on with
  | empty => simp
  | insert a s ha ih =>
    rw [Finset.sum_insert ha, Finset.sum_insert ha, EReal.right_distrib_of_nonneg (hf a) (Finset.sum_nonneg fun i _ => hf i), ih]

theorem kagg_eq {N : Params} (hN : Bounded N) {H : A2 512 128} (hH : ∀ y, Bd 1000 (H y)) (i : Fin 512) (n : Fin 64) :
    kagg N H i n = agg N H i n := by
  unfold kagg agg
  rw [sum_mul_of_nonneg _ _ fun j => edge_nonneg _, ← Finset.sum_add_distrib]
  refine Finset.sum_congr rfl fun j _ => ?_
  rw [klin_eq hN hH]
  rcases edge_cases (N.A (ix2 i j)) with h | h <;> rw [h]
  · rw [mul_one, one_mul, mul_one]
  · rw [mul_zero, zero_mul, mul_zero, add_zero]

theorem kstep_eq {N : Params} (hN : Bounded N) {H : A2 512 128} (hH : ∀ y, Bd 1000 (H y)) : kstep N H = step N H := by
  funext y
  unfold kstep step
  rw [show kagg N H (y 0) = agg N H (y 0) from funext fun n => kagg_eq hN hH _ n]

/-! ## The states stay bounded -/

theorem logistic_mem (x : EReal) : ∃ z : ℝ, Ideal.logistic x = (z : EReal) ∧ 0 ≤ z ∧ z ≤ 1 := by
  induction x with
  | bot => exact ⟨0, by simp, le_refl _, zero_le_one⟩
  | top => exact ⟨1, by simp, zero_le_one, le_refl _⟩
  | coe r =>
    refine ⟨_, Ideal.logistic_coe r, ?_, ?_⟩
    · positivity
    · exact inv_le_one_of_one_le₀ (by linarith [Real.exp_pos (-r)])

theorem tanh_bd (x : EReal) : Bd 1 (Ideal.tanh x) := by
  induction x with
  | bot => exact ⟨-1, by simp, by simp⟩
  | top => exact ⟨1, by simp, by simp⟩
  | coe r => exact ⟨_, Ideal.tanh_coe r, abs_le.mpr ⟨(Real.neg_one_lt_tanh r).le, (Real.tanh_lt_one r).le⟩⟩

theorem gru_bd (gi gh : Fin 384 → EReal) {h : EReal} (hh : Bd 1000 h) (n : Fin 128) : Bd 1000 (gru gi gh h n) := by
  unfold gru
  generalize gi ⟨256 + n.val, _⟩ + _ = t
  obtain ⟨z, ez, z0, z1⟩ := logistic_mem (gi ⟨128 + n.val, by omega⟩ + gh ⟨128 + n.val, by omega⟩)
  obtain ⟨u, eu, hu⟩ := tanh_bd t
  obtain ⟨r, rfl, hr⟩ := hh
  rw [ez, eu]
  refine ⟨(1 - z) * u + z * r, by push_cast; rfl, ?_⟩
  rw [abs_le] at hu hr ⊢
  constructor <;> nlinarith [hu.1, hu.2, hr.1, hr.2]

theorem state_bd (N : Params) {X : A2 512 128} (hX : ∀ y, Bd 1000 (X y)) : ∀ s y, Bd 1000 (state N X s y)
  | 0, y => hX y
  | s + 1, y => gru_bd _ _ (state_bd N hX s y) _

end Cert.Net

end
-- ==== Proof.PayKernelIdeal.lean ====
module

public import proofs.«01_k».proof.Proof.Gen.KernelIdeal.Skeleton
public import proofs.«01_k».proof.Proof.Model
public import Idealize.ShloMosaic.Lib.Pointwise
public import Idealize.ShloMosaic.Lib.IdealHost

@[expose] public section

noncomputable section

/-! What the kernel's stored expressions hold at an index, over the extended reals, and the packed sums as the network's. -/

namespace Cert.KernelIdeal.Gen

open Idealize.ShloMosaic Cert.Net

/-! ## The expressions at an index -/

theorem pay8_eq (X : Vec Ideal S512x128 .f32) : k0_pay8 X = X := by
  funext y
  obtain ⟨r, n, rfl⟩ : ∃ (r : Fin 512) (n : Fin 128), y = ix2 r n := ⟨y 0, y 1, by funext a; match a with | ⟨0, _⟩ => rfl | ⟨1, _⟩ => rfl⟩
  pointwise [k0_pay8]

theorem pay9_eq (X : Vec Ideal S512x128 .f32) : k0_pay9 X = X := by
  funext y
  obtain ⟨r, n, rfl⟩ : ∃ (r : Fin 512) (n : Fin 128), y = ix2 r n := ⟨y 0, y 1, by funext a; match a with | ⟨0, _⟩ => rfl | ⟨1, _⟩ => rfl⟩
  pointwise [k0_pay9]

/-- One block's contribution: the two packed layers summed over the block's neighbours. -/
theorem pay13_apply (E : Vec Ideal S128x256x34 .f32) (Wc : Vec Ideal S34x128 .f32) (P : Vec Ideal S128x128 .f32) (Q : Vec Ideal S256x128 .f32)
    (W2 : Vec Ideal S128x128 .f32) (r : Fin 128) (n : Fin 128) :
    k0_pay1 (k0_pay13 E Wc P Q W2 (k0_pay12 (F := Ideal))) (ix2 r n)
      = ∑ j : Fin 256, ∑ k : Fin 128, max ((∑ e : Fin 34, E (ix3 r j e) * Wc (ix2 e k)) + P (ix2 r k) + Q (ix2 j k)) 0 * W2 (ix2 k n) := by
  pointwise [k0_pay13, k0_pay1, k0_pay12]

/-- The per-row term: the same 64 lanes twice. -/
theorem pay10_lo (H : Vec Ideal S512x128 .f32) (W : Vec Ideal S128x64 .f32) (b : Vec Ideal S1x64 .f32) (r : Fin 512) (n : Fin 64) :
    k0_pay10 H W b (ix2 r (⟨n.val, by omega⟩ : Fin 128)) = (∑ k : Fin 128, H (ix2 r k) * W (ix2 k n)) + b (ix2 0 n) := by
  pointwise [k0_pay10]
theorem pay10_hi (H : Vec Ideal S512x128 .f32) (W : Vec Ideal S128x64 .f32) (b : Vec Ideal S1x64 .f32) (r : Fin 512) (n : Fin 64) :
    k0_pay10 H W b (ix2 r (⟨64 + n.val, by omega⟩ : Fin 128)) = (∑ k : Fin 128, H (ix2 r k) * W (ix2 k n)) + b (ix2 0 n) := by
  pointwise [k0_pay10]

/-- The per-neighbour term: the first half of the nodes, then the second half, side by side. -/
theorem pay11_lo (H : Vec Ideal S512x128 .f32) (W : Vec Ideal S128x64 .f32) (r : Fin 256) (n : Fin 64) :
    k0_pay11 H W (ix2 r (⟨n.val, by omega⟩ : Fin 128)) = ∑ k : Fin 128, H (ix2 (⟨r.val, by omega⟩ : Fin 512) k) * W (ix2 k n) := by
  pointwise [k0_pay11]
theorem pay11_hi (H : Vec Ideal S512x128 .f32) (W : Vec Ideal S128x64 .f32) (r : Fin 256) (n : Fin 64) :
    k0_pay11 H W (ix2 r (⟨64 + n.val, by omega⟩ : Fin 128)) = ∑ k : Fin 128, H (ix2 (⟨256 + r.val, by omega⟩ : Fin 512) k) * W (ix2 k n) := by
  pointwise [k0_pay11]

/-- The gated update of a block's rows. -/
theorem new_apply (a : Vec Ideal S128x128 .f32) (d : Vec Ideal S128x1 .f32) (b2 : Vec Ideal S1x64 .f32) (g : Vec Ideal S128x128 .f32) (w9 : Vec Ideal S64x384 .f32)
    (w11 : Vec Ideal S1x384 .f32) (w10 : Vec Ideal S128x384 .f32) (w12 : Vec Ideal S1x384 .f32) (r : Fin 128) (n : Fin 128) :
    k0_pay2 g (k0_pay5 a d b2 g w9 w11 w10 w12) (k0_pay6 a d b2 w9 w11) (k0_pay7 a d b2 g w9 w11 w10 w12) (ix2 r n)
      = gru (fun c => (∑ x : Fin 64, (a (ix2 r (⟨x.val, by omega⟩ : Fin 128)) + a (ix2 r (⟨64 + x.val, by omega⟩ : Fin 128)) + d (ix2 r 0) * b2 (ix2 0 x)) * w9 (ix2 x c)) + w11 (ix2 0 c))
          (fun c => (∑ x : Fin 128, g (ix2 r x) * w10 (ix2 x c)) + w12 (ix2 0 c)) (g (ix2 r n)) n := by
  pointwise [k0_pay2, k0_pay5, k0_pay6, k0_pay7, k0_pay3, k0_pay4]
  rfl

/-! ## Splitting the packed sums -/

theorem sum34 (f : Fin 34 → EReal) :
    ∑ e, f e = (∑ e : Fin 16, f ⟨e.val, by omega⟩) + f 16 + (∑ e : Fin 16, f ⟨17 + e.val, by omega⟩) + f 33 := by
  rw [Fin.sum_univ_castSucc, Fin.sum_univ_add (a := 17) (b := 16), Fin.sum_univ_castSucc (n := 16)]
  rfl
theorem sum128 (f : Fin 128 → EReal) :
    ∑ k, f k = (∑ k : Fin 64, f ⟨k.val, by omega⟩) + ∑ k : Fin 64, f ⟨64 + k.val, by omega⟩ :=
  Fin.sum_univ_add (a := 64) (b := 64) f
theorem sum512 (f : Fin 512 → EReal) :
    ∑ k, f k = (∑ k : Fin 256, f ⟨k.val, by omega⟩) + ∑ k : Fin 256, f ⟨256 + k.val, by omega⟩ :=
  Fin.sum_univ_add (a := 256) (b := 256) f

/-- The packed edge array: two neighbours' features and absence flags side by side. -/
structure PackE (N : Params) (i : Fin 512) (E : Fin 256 → Fin 34 → EReal) : Prop where
  e0 : ∀ (j : Fin 256) (e : Fin 16), E j ⟨e.val, by omega⟩ = N.E (ix3 i (⟨j.val, by omega⟩ : Fin 512) e)
  f0 : ∀ j : Fin 256, E j 16 = edge (N.A (ix2 i (⟨j.val, by omega⟩ : Fin 512))) - 1
  e1 : ∀ (j : Fin 256) (e : Fin 16), E j ⟨17 + e.val, by omega⟩ = N.E (ix3 i (⟨256 + j.val, by omega⟩ : Fin 512) e)
  f1 : ∀ j : Fin 256, E j 33 = edge (N.A (ix2 i (⟨256 + j.val, by omega⟩ : Fin 512))) - 1
/-- The packed first-layer weights: two copies of the edge part on the diagonal, each with the mask's weight under it. -/
structure PackW (N : Params) (W : Vec Ideal S34x128 .f32) : Prop where
  w00 : ∀ (e : Fin 16) (k : Fin 64), W (ix2 (⟨e.val, by omega⟩ : Fin 34) (⟨k.val, by omega⟩ : Fin 128)) = N.W1 (ix2 k (⟨256 + e.val, by omega⟩ : Fin 272))
  b0 : ∀ k : Fin 64, W (ix2 (16 : Fin 34) (⟨k.val, by omega⟩ : Fin 128)) = big
  z10 : ∀ (e : Fin 16) (k : Fin 64), W (ix2 (⟨17 + e.val, by omega⟩ : Fin 34) (⟨k.val, by omega⟩ : Fin 128)) = 0
  z30 : ∀ k : Fin 64, W (ix2 (33 : Fin 34) (⟨k.val, by omega⟩ : Fin 128)) = 0
  z01 : ∀ (e : Fin 16) (k : Fin 64), W (ix2 (⟨e.val, by omega⟩ : Fin 34) (⟨64 + k.val, by omega⟩ : Fin 128)) = 0
  z21 : ∀ k : Fin 64, W (ix2 (16 : Fin 34) (⟨64 + k.val, by omega⟩ : Fin 128)) = 0
  w11 : ∀ (e : Fin 16) (k : Fin 64), W (ix2 (⟨17 + e.val, by omega⟩ : Fin 34) (⟨64 + k.val, by omega⟩ : Fin 128)) = N.W1 (ix2 k (⟨256 + e.val, by omega⟩ : Fin 272))
  b1 : ∀ k : Fin 64, W (ix2 (33 : Fin 34) (⟨64 + k.val, by omega⟩ : Fin 128)) = big
/-- The packed second-layer weights: two copies on the diagonal. -/
structure PackD (N : Params) (W : Vec Ideal S128x128 .f32) : Prop where
  d00 : ∀ k n : Fin 64, W (ix2 (⟨k.val, by omega⟩ : Fin 128) (⟨n.val, by omega⟩ : Fin 128)) = N.W2 (ix2 n k)
  d01 : ∀ k n : Fin 64, W (ix2 (⟨k.val, by omega⟩ : Fin 128) (⟨64 + n.val, by omega⟩ : Fin 128)) = 0
  d10 : ∀ k n : Fin 64, W (ix2 (⟨64 + k.val, by omega⟩ : Fin 128) (⟨n.val, by omega⟩ : Fin 128)) = 0
  d11 : ∀ k n : Fin 64, W (ix2 (⟨64 + k.val, by omega⟩ : Fin 128) (⟨64 + n.val, by omega⟩ : Fin 128)) = N.W2 (ix2 n k)
/-- The per-row term. -/
structure PackP (N : Params) (H : A2 512 128) (i : Fin 512) (P : Fin 128 → EReal) : Prop where
  lo : ∀ k : Fin 64, P ⟨k.val, by omega⟩ = preI N H i k + N.b1 (ix1 k)
  hi : ∀ k : Fin 64, P ⟨64 + k.val, by omega⟩ = preI N H i k + N.b1 (ix1 k)
/-- The per-neighbour term. -/
structure PackQ (N : Params) (H : A2 512 128) (Q : Vec Ideal S256x128 .f32) : Prop where
  lo : ∀ (j : Fin 256) (k : Fin 64), Q (ix2 j (⟨k.val, by omega⟩ : Fin 128)) = preJ N H ⟨j.val, by omega⟩ k
  hi : ∀ (j : Fin 256) (k : Fin 64), Q (ix2 j (⟨64 + k.val, by omega⟩ : Fin 128)) = preJ N H ⟨256 + j.val, by omega⟩ k

/-- A block's first 64 lanes hold the first half of the neighbours. -/
theorem acc_lo {N : Params} {H : A2 512 128} {i : Fin 512} {r : Fin 128} {E : Vec Ideal S128x256x34 .f32} {Wc : Vec Ideal S34x128 .f32}
    {P : Vec Ideal S128x128 .f32} {Q : Vec Ideal S256x128 .f32} {D : Vec Ideal S128x128 .f32}
    (hE : PackE N i fun j e => E (ix3 r j e)) (hW : PackW N Wc) (hP : PackP N H i fun k => P (ix2 r k)) (hQ : PackQ N H Q) (hD : PackD N D) (n : Fin 64) :
    k0_pay1 (k0_pay13 E Wc P Q D (k0_pay12 (F := Ideal))) (ix2 r (⟨n.val, by omega⟩ : Fin 128))
      = ∑ j : Fin 256, klin N H i ⟨j.val, by omega⟩ n := by
  rw [pay13_apply]
  refine Finset.sum_congr rfl fun j _ => ?_
  rw [sum128]
  simp only [hD.d00, hD.d10, mul_zero, Finset.sum_const_zero, add_zero, sum34, hE.e0, hE.f0, hW.w00, hW.b0, hW.z10, hW.z30, hP.lo, hQ.lo]
  rfl

/-- A block's last 64 lanes hold the second half. -/
theorem acc_hi {N : Params} {H : A2 512 128} {i : Fin 512} {r : Fin 128} {E : Vec Ideal S128x256x34 .f32} {Wc : Vec Ideal S34x128 .f32}
    {P : Vec Ideal S128x128 .f32} {Q : Vec Ideal S256x128 .f32} {D : Vec Ideal S128x128 .f32}
    (hE : PackE N i fun j e => E (ix3 r j e)) (hW : PackW N Wc) (hP : PackP N H i fun k => P (ix2 r k)) (hQ : PackQ N H Q) (hD : PackD N D) (n : Fin 64) :
    k0_pay1 (k0_pay13 E Wc P Q D (k0_pay12 (F := Ideal))) (ix2 r (⟨64 + n.val, by omega⟩ : Fin 128))
      = ∑ j : Fin 256, klin N H i ⟨256 + j.val, by omega⟩ n := by
  rw [pay13_apply]
  refine Finset.sum_congr rfl fun j _ => ?_
  rw [sum128]
  simp only [hD.d01, hD.d11, mul_zero, Finset.sum_const_zero, zero_add, sum34, hE.e1, hE.f1, hW.z01, hW.z21, hW.w11, hW.b1, hP.hi, hQ.hi]
  rfl

/-- Together they sum the packed second layer over all neighbours. -/
theorem acc_total {N : Params} {H : A2 512 128} {i : Fin 512} {r : Fin 128} {E : Vec Ideal S128x256x34 .f32} {Wc : Vec Ideal S34x128 .f32}
    {P : Vec Ideal S128x128 .f32} {Q : Vec Ideal S256x128 .f32} {D : Vec Ideal S128x128 .f32}
    (hE : PackE N i fun j e => E (ix3 r j e)) (hW : PackW N Wc) (hP : PackP N H i fun k => P (ix2 r k)) (hQ : PackQ N H Q) (hD : PackD N D) (n : Fin 64) :
    k0_pay1 (k0_pay13 E Wc P Q D (k0_pay12 (F := Ideal))) (ix2 r (⟨n.val, by omega⟩ : Fin 128))
        + k0_pay1 (k0_pay13 E Wc P Q D (k0_pay12 (F := Ideal))) (ix2 r (⟨64 + n.val, by omega⟩ : Fin 128))
      = ∑ j : Fin 512, klin N H i j n := by
  rw [acc_lo hE hW hP hQ hD, acc_hi hE hW hP hQ hD, sum512]

end Cert.KernelIdeal.Gen

end
-- ==== Proof.ScatterKernelIdeal.lean ====
module

public import proofs.«01_k».proof.Proof.Gen.KernelIdeal.Skeleton
public import Idealize.ShloMosaic.Lib.Pointwise
public import Idealize.ShloMosaic.Lib.Routing.OpsSet

@[expose] public section

noncomputable section

/-! The host program's block stores into the packed weights, read at an entry. -/

namespace Cert.KernelIdeal.Gen

open Idealize.ShloMosaic

variable {α : Type}

/-- The pair of index words of a block store. -/
abbrev words (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

theorem words_0 (a b : BitVec 32) : words a b (ix1 0) = a := by
  pointwise [words]
theorem words_1 (a b : BitVec 32) : words a b (ix1 1) = b := by
  pointwise [words]

theorem block_at (idx : IVec S2 32) (k : Fin 16) (l : Fin 64) (r : Fin 34) (n : Fin 128) :
    scatter_S34x128_S2_S16x64_01_n_01_0.resultIdx? (ix2 k l) idx = some (ix2 r n)
      ↔ (idx (ix1 0)).toInt + (k.val : Int) = r.val ∧ (idx (ix1 1)).toInt + (l.val : Int) = n.val := by
  refine (Routing.resultIdx?_ix2 (R := 34) (C := 128) scatter_S34x128_S2_S16x64_01_n_01_0 (ix2 k l) idx r n).trans ?_
  have e0 : scatter_S34x128_S2_S16x64_01_n_01_0.start (ix2 k l) idx 0 = (idx (ix1 0)).toInt := by
    unfold ScatterDims.start
    rw [dif_pos (by decide)]
    refine congrArg (fun y => (idx y).toInt) (funext fun a => ?_)
    match a with
    | ⟨0, _⟩ => rfl
  have e1 : scatter_S34x128_S2_S16x64_01_n_01_0.start (ix2 k l) idx 1 = (idx (ix1 1)).toInt := by
    unfold ScatterDims.start
    rw [dif_pos (by decide)]
    refine congrArg (fun y => (idx y).toInt) (funext fun a => ?_)
    match a with
    | ⟨0, _⟩ => rfl
  have f0 : scatter_S34x128_S2_S16x64_01_n_01_0.window (ix2 k l) 0 = k.val := by
    unfold ScatterDims.window
    rw [dif_pos (by decide)]; rfl
  have f1 : scatter_S34x128_S2_S16x64_01_n_01_0.window (ix2 k l) 1 = l.val := by
    unfold ScatterDims.window
    rw [dif_pos (by decide)]; rfl
  erw [e0, e1, f0, f1]

theorem line_at (idx : IVec S2 32) (l : Fin 64) (r : Fin 34) (n : Fin 128) :
    scatter_S34x128_S2_S64_0_0_01_0.resultIdx? (ix1 l) idx = some (ix2 r n)
      ↔ (idx (ix1 0)).toInt = r.val ∧ (idx (ix1 1)).toInt + (l.val : Int) = n.val := by
  refine (Routing.resultIdx?_ix2 (R := 34) (C := 128) scatter_S34x128_S2_S64_0_0_01_0 (ix1 l) idx r n).trans ?_
  have e0 : scatter_S34x128_S2_S64_0_0_01_0.start (ix1 l) idx 0 = (idx (ix1 0)).toInt := by
    unfold ScatterDims.start
    rw [dif_pos (by decide)]
    refine congrArg (fun y => (idx y).toInt) (funext fun a => ?_)
    match a with
    | ⟨0, _⟩ => rfl
  have e1 : scatter_S34x128_S2_S64_0_0_01_0.start (ix1 l) idx 1 = (idx (ix1 1)).toInt := by
    unfold ScatterDims.start
    rw [dif_pos (by decide)]
    refine congrArg (fun y => (idx y).toInt) (funext fun a => ?_)
    match a with
    | ⟨0, _⟩ => rfl
  have f0 : scatter_S34x128_S2_S64_0_0_01_0.window (ix1 l) 0 = 0 := by
    unfold ScatterDims.window
    rw [dif_neg (by decide)]
  have f1 : scatter_S34x128_S2_S64_0_0_01_0.window (ix1 l) 1 = l.val := by
    unfold ScatterDims.window
    rw [dif_pos (by decide)]; rfl
  erw [e0, e1, f0, f1]
  simp

theorem square_at (idx : IVec S2 32) (k : Fin 64) (l : Fin 64) (r : Fin 128) (n : Fin 128) :
    scatter_S128x128_S2_S64x64_01_n_01_0.resultIdx? (ix2 k l) idx = some (ix2 r n)
      ↔ (idx (ix1 0)).toInt + (k.val : Int) = r.val ∧ (idx (ix1 1)).toInt + (l.val : Int) = n.val := by
  refine (Routing.resultIdx?_ix2 (R := 128) (C := 128) scatter_S128x128_S2_S64x64_01_n_01_0 (ix2 k l) idx r n).trans ?_
  have e0 : scatter_S128x128_S2_S64x64_01_n_01_0.start (ix2 k l) idx 0 = (idx (ix1 0)).toInt := by
    unfold ScatterDims.start
    rw [dif_pos (by decide)]
    refine congrArg (fun y => (idx y).toInt) (funext fun a => ?_)
    match a with
    | ⟨0, _⟩ => rfl
  have e1 : scatter_S128x128_S2_S64x64_01_n_01_0.start (ix2 k l) idx 1 = (idx (ix1 1)).toInt := by
    unfold ScatterDims.start
    rw [dif_pos (by decide)]
    refine congrArg (fun y => (idx y).toInt) (funext fun a => ?_)
    match a with
    | ⟨0, _⟩ => rfl
  have f0 : scatter_S128x128_S2_S64x64_01_n_01_0.window (ix2 k l) 0 = k.val := by
    unfold ScatterDims.window
    rw [dif_pos (by decide)]; rfl
  have f1 : scatter_S128x128_S2_S64x64_01_n_01_0.window (ix2 k l) 1 = l.val := by
    unfold ScatterDims.window
    rw [dif_pos (by decide)]; rfl
  erw [e0, e1, f0, f1]

/-- Inside the stored 16 by 64 block: the block's entry. -/
theorem block_hit (x0 : S34x128.Idx → α) (idx : IVec S2 32) (upd : S16x64.Idx → α) (r : Fin 34) (n : Fin 128) (k : Fin 16) (l : Fin 64)
    (h0 : (idx (ix1 0)).toInt + (k.val : Int) = r.val) (h1 : (idx (ix1 1)).toInt + (l.val : Int) = n.val) :
    Host.scatter scatter_S34x128_S2_S16x64_01_n_01_0 (fun _ b => b) x0 idx upd (ix2 r n) = upd (ix2 k l) := by
  refine Routing.scatter_set_hit _ _ _ _ _ _ (fun y hy => ?_) (ix2 k l) ((block_at idx k l r n).2 ⟨h0, h1⟩)
  obtain ⟨k', l', rfl⟩ : ∃ (k' : Fin 16) (l' : Fin 64), y = ix2 k' l' := ⟨y 0, y 1, by funext a; match a with | ⟨0, _⟩ => rfl | ⟨1, _⟩ => rfl⟩
  obtain ⟨g0, g1⟩ := (block_at idx k' l' r n).1 hy
  rw [show k' = k from Fin.ext (by omega), show l' = l from Fin.ext (by omega)]

/-- Outside it: what was there. -/
theorem block_miss (x0 : S34x128.Idx → α) (idx : IVec S2 32) (upd : S16x64.Idx → α) (r : Fin 34) (n : Fin 128)
    (h : ∀ (k : Fin 16) (l : Fin 64), ¬((idx (ix1 0)).toInt + (k.val : Int) = r.val ∧ (idx (ix1 1)).toInt + (l.val : Int) = n.val)) :
    Host.scatter scatter_S34x128_S2_S16x64_01_n_01_0 (fun _ b => b) x0 idx upd (ix2 r n) = x0 (ix2 r n) := by
  refine Routing.scatter_set_miss _ _ _ _ _ (fun y hy => ?_)
  obtain ⟨k', l', rfl⟩ : ∃ (k' : Fin 16) (l' : Fin 64), y = ix2 k' l' := ⟨y 0, y 1, by funext a; match a with | ⟨0, _⟩ => rfl | ⟨1, _⟩ => rfl⟩
  exact h k' l' ((block_at idx k' l' r n).1 hy)

/-- Inside the stored line of 64: the line's entry. -/
theorem line_hit (x0 : S34x128.Idx → α) (idx : IVec S2 32) (upd : S64.Idx → α) (r : Fin 34) (n : Fin 128) (l : Fin 64)
    (h0 : (idx (ix1 0)).toInt = r.val) (h1 : (idx (ix1 1)).toInt + (l.val : Int) = n.val) :
    Host.scatter scatter_S34x128_S2_S64_0_0_01_0 (fun _ b => b) x0 idx upd (ix2 r n) = upd (ix1 l) := by
  refine Routing.scatter_set_hit _ _ _ _ _ _ (fun y hy => ?_) (ix1 l) ((line_at idx l r n).2 ⟨h0, h1⟩)
  obtain ⟨l', rfl⟩ : ∃ (l' : Fin 64), y = ix1 l' := ⟨y 0, by funext a; match a with | ⟨0, _⟩ => rfl⟩
  obtain ⟨g0, g1⟩ := (line_at idx l' r n).1 hy
  rw [show l' = l from Fin.ext (by omega)]

/-- Outside it: what was there. -/
theorem line_miss (x0 : S34x128.Idx → α) (idx : IVec S2 32) (upd : S64.Idx → α) (r : Fin 34) (n : Fin 128)
    (h : ∀ l : Fin 64, ¬((idx (ix1 0)).toInt = r.val ∧ (idx (ix1 1)).toInt + (l.val : Int) = n.val)) :
    Host.scatter scatter_S34x128_S2_S64_0_0_01_0 (fun _ b => b) x0 idx upd (ix2 r n) = x0 (ix2 r n) := by
  refine Routing.scatter_set_miss _ _ _ _ _ (fun y hy => ?_)
  obtain ⟨l', rfl⟩ : ∃ (l' : Fin 64), y = ix1 l' := ⟨y 0, by funext a; match a with | ⟨0, _⟩ => rfl⟩
  exact h l' ((line_at idx l' r n).1 hy)

/-- Inside the stored 64 by 64 block: the block's entry. -/
theorem square_hit (x0 : S128x128.Idx → α) (idx : IVec S2 32) (upd : S64x64.Idx → α) (r n : Fin 128) (k l : Fin 64)
    (h0 : (idx (ix1 0)).toInt + (k.val : Int) = r.val) (h1 : (idx (ix1 1)).toInt + (l.val : Int) = n.val) :
    Host.scatter scatter_S128x128_S2_S64x64_01_n_01_0 (fun _ b => b) x0 idx upd (ix2 r n) = upd (ix2 k l) := by
  refine Routing.scatter_set_hit _ _ _ _ _ _ (fun y hy => ?_) (ix2 k l) ((square_at idx k l r n).2 ⟨h0, h1⟩)
  obtain ⟨k', l', rfl⟩ : ∃ (k' l' : Fin 64), y = ix2 k' l' := ⟨y 0, y 1, by funext a; match a with | ⟨0, _⟩ => rfl | ⟨1, _⟩ => rfl⟩
  obtain ⟨g0, g1⟩ := (square_at idx k' l' r n).1 hy
  rw [show k' = k from Fin.ext (by omega), show l' = l from Fin.ext (by omega)]

/-- Outside it: what was there. -/
theorem square_miss (x0 : S128x128.Idx → α) (idx : IVec S2 32) (upd : S64x64.Idx → α) (r n : Fin 128)
    (h : ∀ k l : Fin 64, ¬((idx (ix1 0)).toInt + (k.val : Int) = r.val ∧ (idx (ix1 1)).toInt + (l.val : Int) = n.val)) :
    Host.scatter scatter_S128x128_S2_S64x64_01_n_01_0 (fun _ b => b) x0 idx upd (ix2 r n) = x0 (ix2 r n) := by
  refine Routing.scatter_set_miss _ _ _ _ _ (fun y hy => ?_)
  obtain ⟨k', l', rfl⟩ : ∃ (k' l' : Fin 64), y = ix2 k' l' := ⟨y 0, y 1, by funext a; match a with | ⟨0, _⟩ => rfl | ⟨1, _⟩ => rfl⟩
  exact h k' l' ((square_at idx k' l' r n).1 hy)

end Cert.KernelIdeal.Gen

end
-- ==== Proof.HostKernelIdeal.lean ====
module

public import proofs.«01_k».proof.Proof.Gen.KernelIdeal.Frame
public import proofs.«01_k».proof.Proof.PayKernelIdeal
public import proofs.«01_k».proof.Proof.ScatterKernelIdeal
public import Idealize.ShloMosaic.Lib.Claim
public import Idealize.ShloMosaic.Lib.StableHlo.RunRead

@[expose] public section

set_option maxRecDepth 16384

noncomputable section

/-! What each array that the host program prepares holds when the kernel starts, entry by entry, in the arguments. -/

namespace Cert.KernelIdeal.Gen

open Idealize.ShloMosaic Cert.Net Idealize.ShloMosaic.TcCoe Idealize.SL.Sem

variable (m : (ℓ : Loc nD τ sig) → Buf (Elt Ideal) ℓ) (c : Dev nD)

/-- The network's inputs, as the program's arguments hold them. -/
def netOf : Params where
  A := m ((c.tc : Thread nD τ).loc main_arg1)
  E := m ((c.tc : Thread nD τ).loc main_arg2)
  W1 := m ((c.tc : Thread nD τ).loc main_arg3)
  b1 := m ((c.tc : Thread nD τ).loc main_arg4)
  W2 := m ((c.tc : Thread nD τ).loc main_arg5)
  b2 := m ((c.tc : Thread nD τ).loc main_arg6)
  Wih := m ((c.tc : Thread nD τ).loc main_arg7)
  Whh := m ((c.tc : Thread nD τ).loc main_arg8)
  bih := m ((c.tc : Thread nD τ).loc main_arg9)
  bhh := m ((c.tc : Thread nD τ).loc main_arg10)
/-- The node states, as the program's first argument holds them. -/
def nodesOf : A2 512 128 := m ((c.tc : Thread nD τ).loc main_arg0)

/-! ## Transposes and reshapes -/

theorem v1_at (k : Fin 128) (n : Fin 64) : V m c main_v1 (ix2 k n) = (netOf m c).W1 (ix2 n ⟨k.val, by omega⟩) := by
  entry_read
  pointwise
  rfl
theorem v3_at (k : Fin 128) (n : Fin 64) : V m c main_v3 (ix2 k n) = (netOf m c).W1 (ix2 n ⟨128 + k.val, by omega⟩) := by
  entry_read
  pointwise
  rfl
theorem v25_at (n : Fin 64) : V m c main_v25 (ix2 0 n) = (netOf m c).b1 (ix1 n) := by
  entry_read
  pointwise
  rfl
theorem v36_at (n : Fin 64) : V m c main_v36 (ix2 0 n) = (netOf m c).b2 (ix1 n) := by
  entry_read
  pointwise
  rfl
theorem v37_at (k : Fin 64) (n : Fin 384) : V m c main_v37 (ix2 k n) = (netOf m c).Wih (ix2 n k) := by
  entry_read
  pointwise
  rfl
theorem v38_at (k : Fin 128) (n : Fin 384) : V m c main_v38 (ix2 k n) = (netOf m c).Whh (ix2 n k) := by
  entry_read
  pointwise
  rfl
theorem v39_at (n : Fin 384) : V m c main_v39 (ix2 0 n) = (netOf m c).bih (ix1 n) := by
  entry_read
  pointwise
  rfl
theorem v40_at (n : Fin 384) : V m c main_v40 (ix2 0 n) = (netOf m c).bhh (ix1 n) := by
  entry_read
  pointwise
  rfl

/-! ## The edges -/

/-- The comparison's bit, as a number, is the edge's weight. -/
theorem bit_edge (a : EReal) : (FloatOps.uitofp FTy.f32 (BitVec.ofBool (decide (0 < a))) : Ideal .f32) = edge a := by
  unfold edge
  by_cases h : 0 < a
  · simp [h, FloatOps.uitofp]
  · simp [h, FloatOps.uitofp]

theorem v54_at (n : Fin 512) : (V m c main_v54 : S512x1.Idx → EReal) (ix2 n 0) = ∑ j : Fin 512, edge ((netOf m c).A (ix2 n j)) := by
  entry_read
  pointwise
  exact Eq.trans (α := EReal) (Finset.sum_congr (M := EReal) rfl fun j _ => bit_edge _) rfl
theorem v46_at (i : Fin 512) (j : Fin 256) (e : Fin 16) : V m c main_v46 (ix3 i j e) = (netOf m c).E (ix3 i (⟨j.val, by omega⟩ : Fin 512) e) := by
  entry_read
  pointwise
  rfl
theorem v49_at (i : Fin 512) (j : Fin 256) (e : Fin 16) : V m c main_v49 (ix3 i j e) = (netOf m c).E (ix3 i (⟨256 + j.val, by omega⟩ : Fin 512) e) := by
  entry_read
  pointwise
  rfl
theorem v48_at (i : Fin 512) (j : Fin 256) : V m c main_v48 (ix3 i j 0) = edge ((netOf m c).A (ix2 i (⟨j.val, by omega⟩ : Fin 512))) - 1 := by
  entry_read
  pointwise
  rw [bit_edge]
  rfl
theorem v51_at (i : Fin 512) (j : Fin 256) : V m c main_v51 (ix3 i j 0) = edge ((netOf m c).A (ix2 i (⟨256 + j.val, by omega⟩ : Fin 512))) - 1 := by
  entry_read
  pointwise
  rw [bit_edge]
  rfl

theorem cat_0 (a : S512x256x16.Idx → EReal) (b : S512x256x1.Idx → EReal) (d : S512x256x16.Idx → EReal) (f : S512x256x1.Idx → EReal) (h) (i : Fin 512) (j : Fin 256) (e : Fin 16) :
    concatenate S512x256x34 2 [⟨S512x256x16, a⟩, ⟨S512x256x1, b⟩, ⟨S512x256x16, d⟩, ⟨S512x256x1, f⟩] h (ix3 i j (⟨e.val, by omega⟩ : Fin 34)) = a (ix3 i j e) := by
  pointwise
theorem cat_1 (a : S512x256x16.Idx → EReal) (b : S512x256x1.Idx → EReal) (d : S512x256x16.Idx → EReal) (f : S512x256x1.Idx → EReal) (h) (i : Fin 512) (j : Fin 256) :
    concatenate S512x256x34 2 [⟨S512x256x16, a⟩, ⟨S512x256x1, b⟩, ⟨S512x256x16, d⟩, ⟨S512x256x1, f⟩] h (ix3 i j (16 : Fin 34)) = b (ix3 i j 0) := by
  pointwise
theorem cat_2 (a : S512x256x16.Idx → EReal) (b : S512x256x1.Idx → EReal) (d : S512x256x16.Idx → EReal) (f : S512x256x1.Idx → EReal) (h) (i : Fin 512) (j : Fin 256) (e : Fin 16) :
    concatenate S512x256x34 2 [⟨S512x256x16, a⟩, ⟨S512x256x1, b⟩, ⟨S512x256x16, d⟩, ⟨S512x256x1, f⟩] h (ix3 i j (⟨17 + e.val, by omega⟩ : Fin 34)) = d (ix3 i j e) := by
  pointwise
  rw [dif_neg (by omega), dif_neg (by omega), dif_pos (by omega)]
  exact congrArg (fun z => d (ix3 i j z)) (Fin.ext (by simp; omega))
theorem cat_3 (a : S512x256x16.Idx → EReal) (b : S512x256x1.Idx → EReal) (d : S512x256x16.Idx → EReal) (f : S512x256x1.Idx → EReal) (h) (i : Fin 512) (j : Fin 256) :
    concatenate S512x256x34 2 [⟨S512x256x16, a⟩, ⟨S512x256x1, b⟩, ⟨S512x256x16, d⟩, ⟨S512x256x1, f⟩] h (ix3 i j (33 : Fin 34)) = f (ix3 i j 0) := by
  pointwise

set_option maxHeartbeats 4000000 in
theorem v52_0 (i : Fin 512) (j : Fin 256) (e : Fin 16) : (V m c main_v52 : S512x256x34.Idx → EReal) (ix3 i j (⟨e.val, by omega⟩ : Fin 34)) = (V m c main_v46 : S512x256x16.Idx → EReal) (ix3 i j e) := by
  show (StableHlo.after hostOps0 (fun b => m (c, b)) (Proc.devRef .tc main_v52) : S512x256x34.Idx → EReal) (ix3 i j _) = (StableHlo.after hostOps0 (fun b => m (c, b)) (Proc.devRef .tc main_v46) : S512x256x16.Idx → EReal) (ix3 i j e)
  after_reads_simp
  refine (cat_0 _ _ _ _ _ i j e).trans ?_
  erw [StableHlo.unary_result']
  after_reads_simp
set_option maxHeartbeats 4000000 in
theorem v52_1 (i : Fin 512) (j : Fin 256) : (V m c main_v52 : S512x256x34.Idx → EReal) (ix3 i j (16 : Fin 34)) = (V m c main_v48 : S512x256x1.Idx → EReal) (ix3 i j 0) := by
  show (StableHlo.after hostOps0 (fun b => m (c, b)) (Proc.devRef .tc main_v52) : S512x256x34.Idx → EReal) (ix3 i j _) = (StableHlo.after hostOps0 (fun b => m (c, b)) (Proc.devRef .tc main_v48) : S512x256x1.Idx → EReal) (ix3 i j 0)
  after_reads_simp
  refine (cat_1 _ _ _ _ _ i j).trans ?_
  erw [StableHlo.unary_result']
  after_reads_simp
set_option maxHeartbeats 4000000 in
theorem v52_2 (i : Fin 512) (j : Fin 256) (e : Fin 16) : (V m c main_v52 : S512x256x34.Idx → EReal) (ix3 i j (⟨17 + e.val, by omega⟩ : Fin 34)) = (V m c main_v49 : S512x256x16.Idx → EReal) (ix3 i j e) := by
  show (StableHlo.after hostOps0 (fun b => m (c, b)) (Proc.devRef .tc main_v52) : S512x256x34.Idx → EReal) (ix3 i j _) = (StableHlo.after hostOps0 (fun b => m (c, b)) (Proc.devRef .tc main_v49) : S512x256x16.Idx → EReal) (ix3 i j e)
  after_reads_simp
  refine (cat_2 _ _ _ _ _ i j e).trans ?_
  erw [StableHlo.unary_result']
  after_reads_simp
set_option maxHeartbeats 4000000 in
theorem v52_3 (i : Fin 512) (j : Fin 256) : (V m c main_v52 : S512x256x34.Idx → EReal) (ix3 i j (33 : Fin 34)) = (V m c main_v51 : S512x256x1.Idx → EReal) (ix3 i j 0) := by
  show (StableHlo.after hostOps0 (fun b => m (c, b)) (Proc.devRef .tc main_v52) : S512x256x34.Idx → EReal) (ix3 i j _) = (StableHlo.after hostOps0 (fun b => m (c, b)) (Proc.devRef .tc main_v51) : S512x256x1.Idx → EReal) (ix3 i j 0)
  after_reads_simp
  refine (cat_3 _ _ _ _ _ i j).trans ?_
  erw [StableHlo.unary_result']
  after_reads_simp

/-- The packed edge array is what its name says. -/
theorem packE_v52 (i : Fin 512) : PackE (netOf m c) i fun j e => (V m c main_v52 : S512x256x34.Idx → EReal) (ix3 i j e) where
  e0 j e := (v52_0 m c i j e).trans (v46_at m c i j e)
  f0 j := (v52_1 m c i j).trans (v48_at m c i j)
  e1 j e := (v52_2 m c i j e).trans (v49_at m c i j e)
  f1 j := (v52_3 m c i j).trans (v51_at m c i j)

/-! ## The packed weights -/

/-- The four stores into the first layer's packed weights. -/
def wcat (z : S34x128.Idx → EReal) (w : S16x64.Idx → EReal) (l : S64.Idx → EReal) : S34x128.Idx → EReal :=
  Host.scatter scatter_S34x128_S2_S64_0_0_01_0 (fun _ b => b)
    (Host.scatter scatter_S34x128_S2_S16x64_01_n_01_0 (fun _ b => b)
      (Host.scatter scatter_S34x128_S2_S64_0_0_01_0 (fun _ b => b)
        (Host.scatter scatter_S34x128_S2_S16x64_01_n_01_0 (fun _ b => b) z (words 0#32 0#32) w)
        (words 16#32 0#32) l)
      (words 17#32 64#32) w)
    (words 33#32 64#32) l
/-- The two stores into the second layer's. -/
def wdiag (z : S128x128.Idx → EReal) (w : S64x64.Idx → EReal) : S128x128.Idx → EReal :=
  Host.scatter scatter_S128x128_S2_S64x64_01_n_01_0 (fun _ b => b)
    (Host.scatter scatter_S128x128_S2_S64x64_01_n_01_0 (fun _ b => b) z (words 0#32 0#32) w)
    (words 64#32 64#32) w

theorem packW_wcat (N : Params) {z : S34x128.Idx → EReal} {w : S16x64.Idx → EReal} {l : S64.Idx → EReal}
    (hz : ∀ r n, z (ix2 r n) = 0) (hw : ∀ (e : Fin 16) (k : Fin 64), w (ix2 e k) = N.W1 (ix2 k (⟨256 + e.val, by omega⟩ : Fin 272))) (hl : ∀ k, l (ix1 k) = big) :
    PackW N (wcat z w l) where
  w00 e k := by
    unfold wcat
    rw [line_miss _ _ _ _ _ (by simp only [words_0, words_1, BitVec.reduceToInt]; omega),
      block_miss _ _ _ _ _ (by simp only [words_0, words_1, BitVec.reduceToInt]; omega),
      line_miss _ _ _ _ _ (by simp only [words_0, words_1, BitVec.reduceToInt]; omega),
      block_hit _ _ _ _ _ e k (by simp only [words_0, words_1, BitVec.reduceToInt]; omega) (by simp only [words_0, words_1, BitVec.reduceToInt]; omega)]
    exact hw e k
  b0 k := by
    show wcat z w l (ix2 (⟨16, by omega⟩ : Fin 34) _) = _
    unfold wcat
    rw [line_miss _ _ _ _ _ (by simp only [words_0, words_1, BitVec.reduceToInt]; omega),
      block_miss _ _ _ _ _ (by simp only [words_0, words_1, BitVec.reduceToInt]; omega),
      line_hit _ _ _ _ _ k (by simp only [words_0, words_1, BitVec.reduceToInt]; omega) (by simp only [words_0, words_1, BitVec.reduceToInt]; omega)]
    exact hl k
  z10 e k := by
    unfold wcat
    rw [line_miss _ _ _ _ _ (by simp only [words_0, words_1, BitVec.reduceToInt]; omega),
      block_miss _ _ _ _ _ (by simp only [words_0, words_1, BitVec.reduceToInt]; omega),
      line_miss _ _ _ _ _ (by simp only [words_0, words_1, BitVec.reduceToInt]; omega),
      block_miss _ _ _ _ _ (by simp only [words_0, words_1, BitVec.reduceToInt]; omega)]
    exact hz _ _
  z30 k := by
    show wcat z w l (ix2 (⟨33, by omega⟩ : Fin 34) _) = _
    unfold wcat
    rw [line_miss _ _ _ _ _ (by simp only [words_0, words_1, BitVec.reduceToInt]; omega),
      block_miss _ _ _ _ _ (by simp only [words_0, words_1, BitVec.reduceToInt]; omega),
      line_miss _ _ _ _ _ (by simp only [words_0, words_1, BitVec.reduceToInt]; omega),
      block_miss _ _ _ _ _ (by simp only [words_0, words_1, BitVec.reduceToInt]; omega)]
    exact hz _ _
  z01 e k := by
    unfold wcat
    rw [line_miss _ _ _ _ _ (by simp only [words_0, words_1, BitVec.reduceToInt]; omega),
      block_miss _ _ _ _ _ (by simp only [words_0, words_1, BitVec.reduceToInt]; omega),
      line_miss _ _ _ _ _ (by simp only [words_0, words_1, BitVec.reduceToInt]; omega),
      block_miss _ _ _ _ _ (by simp only [words_0, words_1, BitVec.reduceToInt]; omega)]
    exact hz _ _
  z21 k := by
    show wcat z w l (ix2 (⟨16, by omega⟩ : Fin 34) _) = _
    unfold wcat
    rw [line_miss _ _ _ _ _ (by simp only [words_0, words_1, BitVec.reduceToInt]; omega),
      block_miss _ _ _ _ _ (by simp only [words_0, words_1, BitVec.reduceToInt]; omega),
      line_miss _ _ _ _ _ (by simp only [words_0, words_1, BitVec.reduceToInt]; omega),
      block_miss _ _ _ _ _ (by simp only [words_0, words_1, BitVec.reduceToInt]; omega)]
    exact hz _ _
  w11 e k := by
    unfold wcat
    rw [line_miss _ _ _ _ _ (by simp only [words_0, words_1, BitVec.reduceToInt]; omega),
      block_hit _ _ _ _ _ e k (by simp only [words_0, words_1, BitVec.reduceToInt]; omega) (by simp only [words_0, words_1, BitVec.reduceToInt]; omega)]
    exact hw e k
  b1 k := by
    show wcat z w l (ix2 (⟨33, by omega⟩ : Fin 34) _) = _
    unfold wcat
    rw [line_hit _ _ _ _ _ k (by simp only [words_0, words_1, BitVec.reduceToInt]; omega) (by simp only [words_0, words_1, BitVec.reduceToInt]; omega)]
    exact hl k

theorem packD_wdiag (N : Params) {z : S128x128.Idx → EReal} {w : S64x64.Idx → EReal}
    (hz : ∀ r n, z (ix2 r n) = 0) (hw : ∀ k n : Fin 64, w (ix2 k n) = N.W2 (ix2 n k)) :
    PackD N (wdiag z w) where
  d00 k n := by
    unfold wdiag
    rw [square_miss _ _ _ _ _ (by simp only [words_0, words_1, BitVec.reduceToInt]; omega),
      square_hit _ _ _ _ _ k n (by simp only [words_0, words_1, BitVec.reduceToInt]; omega) (by simp only [words_0, words_1, BitVec.reduceToInt]; omega)]
    exact hw k n
  d01 k n := by
    unfold wdiag
    rw [square_miss _ _ _ _ _ (by simp only [words_0, words_1, BitVec.reduceToInt]; omega),
      square_miss _ _ _ _ _ (by simp only [words_0, words_1, BitVec.reduceToInt]; omega)]
    exact hz _ _
  d10 k n := by
    unfold wdiag
    rw [square_miss _ _ _ _ _ (by simp only [words_0, words_1, BitVec.reduceToInt]; omega),
      square_miss _ _ _ _ _ (by simp only [words_0, words_1, BitVec.reduceToInt]; omega)]
    exact hz _ _
  d11 k n := by
    unfold wdiag
    rw [square_hit _ _ _ _ _ k n (by simp only [words_0, words_1, BitVec.reduceToInt]; omega) (by simp only [words_0, words_1, BitVec.reduceToInt]; omega)]
    exact hw k n

/-- The first layer's packed weights are what their name says. -/
theorem packW_v24 : PackW (netOf m c) (V m c main_v24) := by
  have e : V m c main_v24 = wcat (broadcastInDim S34x128 ![] bcast_S_S34x128 (constant (F := Ideal) S_ FTy.f32 0#32))
      (transpose S16x64 [1, 0] (extractStridedSlice S64x16 ![0, 256] (m ((c.tc : Thread nD τ).loc main_arg3)) slices_S64x272_S64x16_0_256) transposes_S64x16_S16x64_1_0)
      (broadcastInDim S64 ![] bcast_S_S64 (constant (F := Ideal) S_ FTy.f32 0x4E6E6B28#32)) := by
    entry_read
    rfl
  rw [e]
  refine packW_wcat _ (fun r n => ?_) (fun e k => ?_) (fun k => ?_)
  · pointwise
  · pointwise
    rfl
  · pointwise
    rfl

/-- The second layer's packed weights are what their name says. -/
theorem packD_v35 : PackD (netOf m c) (V m c main_v35) := by
  have e : V m c main_v35 = wdiag (broadcastInDim S128x128 ![] bcast_S_S128x128 (constant (F := Ideal) S_ FTy.f32 0#32))
      (transpose S64x64 [1, 0] (m ((c.tc : Thread nD τ).loc main_arg5)) transposes_S64x64_S64x64_1_0) := by
    entry_read
    rfl
  rw [e]
  refine packD_wdiag _ (fun r n => ?_) (fun k n => ?_)
  · pointwise
  · pointwise
    rfl

end Cert.KernelIdeal.Gen

end
-- ==== Proof.BlocksKernelIdeal.lean ====
module

public import proofs.«01_k».proof.Proof.BodyKernelIdeal
public import proofs.«01_k».proof.Proof.HostKernelIdeal
public import Idealize.ShloMosaic.Lib.Pipeline.ValueKit

@[expose] public section

set_option maxRecDepth 16384

noncomputable section

/-! The blocks that a point reads, as the arrays that the host program prepared. -/

namespace Cert.KernelIdeal.Gen

open Idealize.ShloMosaic Cert.Net Idealize.ShloMosaic.TcCoe Idealize.SL.Sem

variable (m : (ℓ : Loc nD τ sig) → Buf (Elt Ideal) ℓ) (c : Dev nD)

/-! ## The blocks that a point reads -/

theorem idx_1 (t : Fin cfg0.N) : win0_1.index t = ![t.val % 4, 0, 0] := by
  have e1 := coord1 t
  have e2 := coord2 t
  have ht := t_lt t
  show cc0_transform_1 (grid0.coords t) = _
  unfold cc0_transform_1
  rw [e1, e2]
  funext a
  match a with
  | ⟨0, _⟩ => simp; omega
  | ⟨1, _⟩ => simp [Nat.mod_one]
  | ⟨2, _⟩ => rfl
theorem idx_0 (t : Fin cfg0.N) : win0_0.index t = ![0, 0] := rfl
theorem idx_2 (t : Fin cfg0.N) : win0_2.index t = ![0, 0] := rfl
theorem idx_3 (t : Fin cfg0.N) : win0_3.index t = ![0, 0] := rfl
theorem idx_4 (t : Fin cfg0.N) : win0_4.index t = ![0, 0] := rfl
theorem idx_5 (t : Fin cfg0.N) : win0_5.index t = ![0, 0] := rfl
theorem idx_6 (t : Fin cfg0.N) : win0_6.index t = ![0, 0] := rfl
theorem idx_7 (t : Fin cfg0.N) : win0_7.index t = ![0, 0] := rfl
theorem idx_8 (t : Fin cfg0.N) : win0_8.index t = ![0, 0] := rfl
theorem idx_9 (t : Fin cfg0.N) : win0_9.index t = ![0, 0] := rfl
theorem idx_10 (t : Fin cfg0.N) : win0_10.index t = ![0, 0] := rfl
theorem idx_11 (t : Fin cfg0.N) : win0_11.index t = ![0, 0] := rfl
theorem idx_12 (t : Fin cfg0.N) : win0_12.index t = ![0, 0] := rfl

theorem iblk1_at (t : Fin cfg0.N) (r : Fin 128) (j : Fin 256) (e : Fin 34) :
    (iblk m c 1 t : S128x256x34.Idx → EReal) (ix3 r j e) = (V m c main_v52 : S512x256x34.Idx → EReal) (ix3 (⟨128 * (t.val % 4) + r.val, by omega⟩ : Fin 512) j e) := by
  blk_ext [iblk, idx_1]
theorem iblk0_eq (t : Fin cfg0.N) : (iblk m c 0 t : S512x128.Idx → EReal) = nodesOf m c := by
  funext y
  refine Eq.trans (b := (V m c main_arg0 : S512x128.Idx → EReal) y) ?_ (congrFun (V_main_arg0 m c) y)
  blk_ext [iblk, idx_0]
theorem iblk2_eq (t : Fin cfg0.N) : (iblk m c 2 t : S512x1.Idx → EReal) = V m c main_v54 := by
  funext y
  blk_ext [iblk, idx_2]
theorem iblk3_eq (t : Fin cfg0.N) : (iblk m c 3 t : S128x64.Idx → EReal) = V m c main_v1 := by
  funext y
  blk_ext [iblk, idx_3]
theorem iblk4_eq (t : Fin cfg0.N) : (iblk m c 4 t : S128x64.Idx → EReal) = V m c main_v3 := by
  funext y
  blk_ext [iblk, idx_4]
theorem iblk5_eq (t : Fin cfg0.N) : (iblk m c 5 t : S34x128.Idx → EReal) = V m c main_v24 := by
  funext y
  blk_ext [iblk, idx_5]
theorem iblk6_eq (t : Fin cfg0.N) : (iblk m c 6 t : S1x64.Idx → EReal) = V m c main_v25 := by
  funext y
  blk_ext [iblk, idx_6]
theorem iblk7_eq (t : Fin cfg0.N) : (iblk m c 7 t : S128x128.Idx → EReal) = V m c main_v35 := by
  funext y
  blk_ext [iblk, idx_7]
theorem iblk8_eq (t : Fin cfg0.N) : (iblk m c 8 t : S1x64.Idx → EReal) = V m c main_v36 := by
  funext y
  blk_ext [iblk, idx_8]
theorem iblk9_eq (t : Fin cfg0.N) : (iblk m c 9 t : S64x384.Idx → EReal) = V m c main_v37 := by
  funext y
  blk_ext [iblk, idx_9]
theorem iblk10_eq (t : Fin cfg0.N) : (iblk m c 10 t : S128x384.Idx → EReal) = V m c main_v38 := by
  funext y
  blk_ext [iblk, idx_10]
theorem iblk11_eq (t : Fin cfg0.N) : (iblk m c 11 t : S1x384.Idx → EReal) = V m c main_v39 := by
  funext y
  blk_ext [iblk, idx_11]
theorem iblk12_eq (t : Fin cfg0.N) : (iblk m c 12 t : S1x384.Idx → EReal) = V m c main_v40 := by
  funext y
  blk_ext [iblk, idx_12]

end Cert.KernelIdeal.Gen

end
-- ==== Proof.StateKernelIdeal.lean ====
module

public import proofs.«01_k».proof.Proof.BlocksKernelIdeal
public import Idealize.ShloMosaic.Lib.Pipeline.ValueKit

@[expose] public section

set_option maxRecDepth 16384

noncomputable section

/-! What the kernel's state holds after each step: the network's states, packed form first, then the plain one. -/

namespace Cert.KernelIdeal.Gen

open Idealize.ShloMosaic Cert.Net Idealize.ShloMosaic.TcCoe Idealize.SL.Sem

variable (m : (ℓ : Loc nD τ sig) → Buf (Elt Ideal) ℓ) (c : Dev nD)

/-! ## The two terms computed once a step -/

theorem packP_of (s : ℕ) (h : A2 512 128) (i : Fin 512) : PackP (netOf m c) h i fun k => pOf m c s h (ix2 i k) where
  lo k := by
    unfold pOf
    rw [pay10_lo]
    exact congrArg₂ (· + ·) (Finset.sum_congr rfl fun x _ => congrArg (h (ix2 i x) * ·) ((congrFun (iblk3_eq m c _) (ix2 x k)).trans (v1_at m c x k)))
      ((congrFun (iblk6_eq m c _) (ix2 0 k)).trans (v25_at m c k))
  hi k := by
    unfold pOf
    rw [pay10_hi]
    exact congrArg₂ (· + ·) (Finset.sum_congr rfl fun x _ => congrArg (h (ix2 i x) * ·) ((congrFun (iblk3_eq m c _) (ix2 x k)).trans (v1_at m c x k)))
      ((congrFun (iblk6_eq m c _) (ix2 0 k)).trans (v25_at m c k))

theorem packQ_of (s : ℕ) (h : A2 512 128) : PackQ (netOf m c) h (qOf m c s h) where
  lo j k := by
    unfold qOf
    rw [pay11_lo]
    exact Finset.sum_congr rfl fun x _ => congrArg (h (ix2 _ x) * ·) ((congrFun (iblk4_eq m c _) (ix2 x k)).trans (v3_at m c x k))
  hi j k := by
    unfold qOf
    rw [pay11_hi]
    exact Finset.sum_congr rfl fun x _ => congrArg (h (ix2 _ x) * ·) ((congrFun (iblk4_eq m c _) (ix2 x k)).trans (v3_at m c x k))

/-! ## The rows that a point stores -/

/-- A point's row block, read off an array of 512 rows. -/
theorem rows_at {α : EltTy → Type} {n : ℕ} (t : Fin cfg0.N) (X : (⟨2, ![512, n]⟩ : Shape).Idx → α .f32) (off : Fin 2 → ℕ) (h : off = ![128 * (grid0.coords t 1).val, 0]) (inb) (r : Fin 128) (x : Fin n) :
    View.ld (Val := α) (e' := .f32) (S := ⟨2, ![512, n]⟩) X (Rect.unit (s := ⟨2, ![512, n]⟩) off ![128, n] inb) (ix2 r x) = X (ix2 (⟨128 * (t.val % 4) + r.val, by omega⟩ : Fin 512) x) := by
  have e1 := coord1 t
  rw [Nat.div_one] at e1
  refine View.ld_unit_apply_of X off ![128, n] inb (ix2 r x) (ix2 _ x) fun a => ?_
  subst h
  match a with
  | ⟨0, _⟩ => show 128 * (t.val % 4) + r.val = 128 * (grid0.coords t 1).val + r.val; rw [e1]
  | ⟨1, _⟩ => show x.val = 0 + x.val; omega

/-- The neighbour block is the whole per-neighbour term. -/
theorem rowsQ_eq (t : Fin cfg0.N) (q : Vec Ideal S256x128 .f32) : rowsQ (grid0.coords t) q = q := by
  have e2 := coord2 t
  funext y
  refine View.ld_unit_apply_of q _ _ _ y y fun a => ?_
  have o := k0_off2_eq (grid0.coords t)
  match a with
  | ⟨0, _⟩ =>
    show (y 0).val = k0_off2 (grid0.coords t) 0 + (y 0).val
    rw [show k0_off2 (grid0.coords t) 0 = 256 * (grid0.coords t 2).val from congrFun o 0, e2, Nat.mod_one]; omega
  | ⟨1, _⟩ =>
    show (y 1).val = k0_off2 (grid0.coords t) 1 + (y 1).val
    rw [show k0_off2 (grid0.coords t) 1 = 0 from congrFun o 1]; omega

theorem rows_of (s : ℕ) (t : Fin cfg0.N) (h : A2 512 128) (r n : Fin 128) :
    rowsOf m c s t h (ix2 r n) = kstep (netOf m c) h (ix2 (⟨128 * (t.val % 4) + r.val, by omega⟩ : Fin 512) n) := by
  unfold rowsOf newRows accOf
  refine (new_apply _ _ _ _ _ _ _ _ r n).trans ?_
  have hg : ∀ x : Fin 128, View.ld (Val := Elt Ideal) (e' := .f32) (S := S512x128) h (Rect.unit (s := S512x128) (k0_off4 (grid0.coords t)) S128x128.size (k0_off4_inb (grid0.coords t) (cE_all t))) (ix2 r x)
      = h (ix2 (⟨128 * (t.val % 4) + r.val, by omega⟩ : Fin 512) x) := fun x => rows_at (α := Elt Ideal) (n := 128) t h _ (k0_off4_eq _) _ r x
  have hd : View.ld (Val := Elt Ideal) (e' := .f32) (S := S512x1) (iblk m c 2 t) (Rect.unit (s := S512x1) (k0_off3 (grid0.coords t)) S128x1.size (k0_off3_inb (grid0.coords t) (cE_all t))) (ix2 r 0)
      = ∑ j : Fin 512, edge ((netOf m c).A (ix2 (⟨128 * (t.val % 4) + r.val, by omega⟩ : Fin 512) j)) :=
    (rows_at (α := Elt Ideal) (n := 1) t (iblk m c 2 t) _ (k0_off3_eq _) _ r 0).trans ((congrFun (iblk2_eq m c t) _).trans (v54_at m c _))
  have hE : PackE (netOf m c) (⟨128 * (t.val % 4) + r.val, by omega⟩ : Fin 512) fun j e => (iblk m c 1 t : S128x256x34.Idx → EReal) (ix3 r j e) := by
    have := packE_v52 m c (⟨128 * (t.val % 4) + r.val, by omega⟩ : Fin 512)
    rwa [← show (fun j e => (iblk m c 1 t : S128x256x34.Idx → EReal) (ix3 r j e)) = _ from funext fun j => funext fun e => iblk1_at m c t r j e] at this
  have hW : PackW (netOf m c) (iblk m c 5 t : S34x128.Idx → EReal) := by rw [iblk5_eq]; exact packW_v24 m c
  have hD : PackD (netOf m c) (iblk m c 7 t : S128x128.Idx → EReal) := by rw [iblk7_eq]; exact packD_v35 m c
  have hP : PackP (netOf m c) h (⟨128 * (t.val % 4) + r.val, by omega⟩ : Fin 512) fun k => rowsP (grid0.coords t) (pOf m c s h) (ix2 r k) := by
    have := packP_of m c s h (⟨128 * (t.val % 4) + r.val, by omega⟩ : Fin 512)
    rwa [← show (fun k => rowsP (grid0.coords t) (pOf m c s h) (ix2 r k)) = _ from funext fun k => rows_at (α := Elt Ideal) (n := 128) t (pOf m c s h) _ (k0_off1_eq _) _ r k] at this
  have hQ : PackQ (netOf m c) h (rowsQ (grid0.coords t) (qOf m c s h)) := by rw [rowsQ_eq]; exact packQ_of m c s h
  unfold kstep
  rw [hg n]
  refine congrArg₂ (fun a b => gru a b _ n) (funext fun k => ?_) (funext fun k => ?_)
  · refine congrArg₂ (· + ·) (Finset.sum_congr rfl fun x _ => ?_) ((congrFun (iblk11_eq m c t) (ix2 0 k)).trans (v39_at m c k))
    refine congrArg₂ (· * ·) ?_ ((congrFun (iblk9_eq m c t) (ix2 x k)).trans (v37_at m c x k))
    refine congrArg₂ (· + ·) (acc_total hE hW hP hQ hD x) ?_
    rw [hd]
    exact congrArg (_ * ·) ((congrFun (iblk8_eq m c t) (ix2 0 x)).trans (v36_at m c x))
  · refine congrArg₂ (· + ·) (Finset.sum_congr rfl fun x _ => ?_) ((congrFun (iblk12_eq m c t) (ix2 0 k)).trans (v40_at m c k))
    rw [hg x]
    exact congrArg (_ * ·) ((congrFun (iblk10_eq m c t) (ix2 x k)).trans (v38_at m c x k))

/-! ## The states -/

theorem stepOf_eq (s : ℕ) (hs : s < 3) (h : A2 512 128) : stepOf m c s h = kstep (netOf m c) h := by
  funext y
  unfold stepOf
  have y0 : (y 0).val < 512 := (y 0).isLt
  have hv : (pt (4 * s + (y 0).val / 128)).val % 4 = (y 0).val / 128 := by
    show (4 * s + (y 0).val / 128) % 12 % 4 = _
    omega
  have hr : rowIn y = ix2 (⟨(y 0).val % 128, Nat.mod_lt _ (by decide)⟩ : Fin 128) (y 1 : Fin 128) := by
    funext a
    match a with
    | ⟨0, _⟩ => rfl
    | ⟨1, _⟩ => rfl
  rw [hr]
  refine (rows_of m c s _ h _ _).trans (congrArg (kstep (netOf m c) h) (funext fun a => ?_))
  match a with
  | ⟨0, _⟩ =>
    refine Fin.ext ?_
    show 128 * ((pt (4 * s + (y 0).val / 128)).val % 4) + (y 0).val % 128 = (y 0).val
    rw [hv]; omega
  | ⟨1, _⟩ => rfl

/-- The state at each step is the network's, for bounded inputs. -/
theorem hAt_eq (hN : Bounded (netOf m c)) (hX : ∀ y, Bd 1000 (nodesOf m c y)) : ∀ s, s < 3 → hAt m c s = state (netOf m c) (nodesOf m c) s
  | 0, _ => by rw [hAt_zero, pay8_eq]; exact iblk0_eq m c _
  | s + 1, hs => by
    rw [hAt_succ, pay9_eq, outAt_eq, hAt_eq hN hX s (by omega), stepOf_eq m c s (by omega)]
    exact kstep_eq hN (state_bd _ hX s)

/-- What the result holds: the network's states after three steps. -/
theorem outAt_two (hN : Bounded (netOf m c)) (hX : ∀ y, Bd 1000 (nodesOf m c y)) : outAt m c 2 = state (netOf m c) (nodesOf m c) 3 := by
  rw [outAt_eq, hAt_eq m c hN hX 2 (by omega), stepOf_eq m c 2 (by omega)]
  exact kstep_eq hN (state_bd _ hX 2)

end Cert.KernelIdeal.Gen

end
-- ==== Proof.BoundedKernelIdeal.lean ====
module

public import proofs.«01_k».proof.Defs
public import proofs.«01_k».proof.Proof.HostKernelIdeal
public import Idealize.ShloMosaic.Lib.Pointwise
public import Idealize.ShloMosaic.Lib.ReduceAll
public import Idealize.ShloMosaic.Lib.IdealHost

@[expose] public section

set_option maxRecDepth 16384

noncomputable section

/-! What the precondition says of the arguments, element by element. -/

namespace Cert.Pre_bounded

open Idealize.ShloMosaic Cert.Net

/-- The relations between shapes the precondition's operations ask for. -/
theorem facts : Facts where
  bcast_S_S512x128 := by decide
  reducesTo_S512x128_S_d0_1 := by decide
  h_S_ := by decide
  bcast_S_S512x512x16 := by decide
  reducesTo_S512x512x16_S_d0_1_2 := by decide
  bcast_S_S64x272 := by decide
  reducesTo_S64x272_S_d0_1 := by decide
  bcast_S_S64 := by decide
  reducesTo_S64_S_d0 := by decide

instance : Subsingleton S_.Idx := ⟨fun a b => funext fun k => k.elim0⟩

/-- The word for a thousand. -/
theorem thousand : Ideal.ofBits .f32 0x447A0000#32 = ((1000 : ℝ) : EReal) := by
  simp [Ideal.ofBits, Ideal.ieee, -EReal.coe_mul]; norm_num

/-- A number whose absolute value is at most a thousand is a real in that range. -/
theorem bd_of_abs {x : EReal} (h : max x (-x) ≤ ((1000 : ℝ) : EReal)) : Bd 1000 x := by
  induction x with
  | bot => simp at h
  | top => simp at h
  | coe r =>
    refine ⟨r, rfl, abs_le'.2 ⟨?_, ?_⟩⟩
    · exact EReal.coe_le_coe_iff.1 ((le_max_left _ _).trans h)
    · exact EReal.coe_le_coe_iff.1 ((EReal.coe_neg r).symm ▸ (le_max_right _ _).trans h)

/-- One element's comparison, read. -/
theorem bd_of_bit {s : Shape} (x : FVec Ideal s .f32) (h : S_.BroadcastsInDim s (![] : Fin 0 → Fin s.rank)) (y : s.Idx)
    (e : cmpf .ole (Host.absf x) (broadcastInDim s ![] h (constant (F := Ideal) S_ .f32 0x447A0000#32)) y = 1#1) : Bd 1000 (x y : EReal) := by
  refine bd_of_abs ?_
  pointwise at e
  rw [thousand] at e
  by_contra hn
  rw [decide_eq_false (show ¬ FloatOps.absf (x y) ≤ ((1000 : ℝ) : EReal) from hn)] at e
  exact absurd e (by decide)

/-- The precondition bounds the states, the edge features and the first layer's weights and biases. -/
theorem bd_of_fn [Facts] (x0 : FVec Ideal S512x128 .f32) (x1 : FVec Ideal S512x512 .f32) (x2 : FVec Ideal S512x512x16 .f32) (x3 : FVec Ideal S64x272 .f32)
    (x4 : FVec Ideal S64 .f32) (x5 : FVec Ideal S64x64 .f32) (x6 : FVec Ideal S64 .f32) (x7 : FVec Ideal S384x64 .f32) (x8 : FVec Ideal S384x128 .f32)
    (x9 : FVec Ideal S384 .f32) (x10 : FVec Ideal S384 .f32) (e : fn x0 x1 x2 x3 x4 x5 x6 x7 x8 x9 x10 = fun _ => 1#1) :
    (∀ y, Bd 1000 (x0 y : EReal)) ∧ (∀ y, Bd 1000 (x2 y : EReal)) ∧ (∀ y, Bd 1000 (x3 y : EReal)) ∧ ∀ y, Bd 1000 (x4 y : EReal) := by
  have e0 := congrFun e (fun k => k.elim0)
  dsimp only [fn, fn_part1] at e0
  obtain ⟨e1, h4⟩ := IntOp.andi_eq_one.1 e0
  obtain ⟨e2, h3⟩ := IntOp.andi_eq_one.1 e1
  obtain ⟨h0, h2⟩ := IntOp.andi_eq_one.1 e2
  exact ⟨fun y => bd_of_bit x0 _ y (Host.reduce_andi_all _ _ _ _ _ h0 y), fun y => bd_of_bit x2 _ y (Host.reduce_andi_all _ _ _ _ _ h2 y),
    fun y => bd_of_bit x3 _ y (Host.reduce_andi_all _ _ _ _ _ h3 y), fun y => bd_of_bit x4 _ y (Host.reduce_andi_all _ _ _ _ _ h4 y)⟩

end Cert.Pre_bounded

namespace Cert.KernelIdeal.Gen

open Idealize.ShloMosaic Cert.Net Idealize.ShloMosaic.TcCoe

/-- Under the precondition the network's inputs are bounded, and so are the node states. -/
theorem bounded_of_pre [Cert.Pre_bounded.Facts] (m : (ℓ : Loc nD τ sig) → Buf (Elt Ideal) ℓ) (h : Cert.Pre_KernelIdeal_bounded m) (c : Dev nD) :
    Bounded (netOf m c) ∧ ∀ y, Bd 1000 (nodesOf m c y) :=
  have k := Cert.Pre_bounded.bd_of_fn _ _ _ _ _ _ _ _ _ _ _ (h c)
  ⟨⟨k.2.1, k.2.2.1, k.2.2.2⟩, k.1⟩

end Cert.KernelIdeal.Gen

end
-- ==== Proof.RunKernelIdealValue.lean ====
module

public import proofs.«01_k».proof.Proof.LaunchKernelIdeal
public import proofs.«01_k».proof.Proof.StateKernelIdeal
public import proofs.«01_k».proof.Proof.BoundedKernelIdeal

@[expose] public section

noncomputable section

/-! What the kernel leaves: on bounded inputs, the network's states after three steps. -/

namespace Cert.KernelIdeal.Gen

open Idealize.ShloMosaic Idealize.ShloMosaic.TcCoe Idealize.SL.Sem Cert.Net

/-- On arguments meeting the precondition the kernel runs to its end, its result array holds the states after three steps, and its
    arguments are unchanged. -/
theorem run_value [Cert.Pre_bounded.Facts] (m : (ℓ : Loc nD τ sig) → Buf (Elt Ideal) ℓ) (ρ : Dev nD → PrngReg)
    (h : Cert.Pre_KernelIdeal_bounded m) :
    θ_run defs (onTc (τ := τ) (main (F := Ideal))) ⟨m, fun _ => 0, ρ⟩ (fun r => ∀ c : Dev nD,
      r.2.mem ((c.tc : Thread nD τ).loc main_v55) = state (netOf m c) (nodesOf m c) 3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r k c =>
    ⟨(out_eq m r k.1 c).trans (outAt_two m c (bounded_of_pre m h c).1 (bounded_of_pre m h c).2), args_of m r k.1 c⟩)
    (run_main_quiescent m ρ)

end Cert.KernelIdeal.Gen

end
-- ==== Proof.ValueReferenceIdeal.lean ====
module

public import proofs.«01_k».proof.Proof.Gen.ReferenceIdeal.Run
public import proofs.«01_k».proof.Proof.Model
public import Idealize.ShloMosaic.Lib.Pointwise
public import Idealize.ShloMosaic.Lib.IdealHost

@[expose] public section

set_option maxRecDepth 16384

noncomputable section

/-! What the reference computes: the network's states after one, two and three steps. -/

namespace Cert.ReferenceIdeal.Value

open Cert.ReferenceIdeal Cert.ReferenceIdeal.Gen Idealize.ShloMosaic Cert.Net Idealize.ShloMosaic.TcCoe Idealize.SL.Sem

variable (V0 : Valuation τ sig (Elt Ideal))

/-- The network's inputs, as the program's arguments hold them. -/
def netOf : Params where
  A := V0 (Proc.devRef .tc main_arg1)
  E := V0 (Proc.devRef .tc main_arg2)
  W1 := V0 (Proc.devRef .tc main_arg3)
  b1 := V0 (Proc.devRef .tc main_arg4)
  W2 := V0 (Proc.devRef .tc main_arg5)
  b2 := V0 (Proc.devRef .tc main_arg6)
  Wih := V0 (Proc.devRef .tc main_arg7)
  Whh := V0 (Proc.devRef .tc main_arg8)
  bih := V0 (Proc.devRef .tc main_arg9)
  bhh := V0 (Proc.devRef .tc main_arg10)
/-- The node states, as the program's first argument holds them. -/
def nodesOf : A2 512 128 := V0 (Proc.devRef .tc main_arg0)

theorem ix2_surj {a b : ℕ} (y : (⟨2, ![a, b]⟩ : Shape).Idx) : y = ix2 (y 0 : Fin a) (y 1 : Fin b) := by
  funext k
  match k with
  | ⟨0, _⟩ => rfl
  | ⟨1, _⟩ => rfl

/-- The comparison's bit, as a number, is the edge's weight. -/
theorem bit_edge (a : EReal) : (FloatOps.uitofp FTy.f32 (BitVec.ofBool (decide (0 < a))) : Ideal .f32) = edge a := by
  unfold edge
  by_cases h : 0 < a
  · simp [h, FloatOps.uitofp]
  · simp [h, FloatOps.uitofp]

/-- Step 1's inputs to the gates from the messages. -/
theorem gi_1 (r : Fin 512) (n : Fin 384) : (res_main_v34 V0 : S512x384.Idx → EReal) (ix2 r n) = gateI (netOf V0) (agg (netOf V0) (nodesOf V0) r) n := by
  pointwise [res_main_v34, res_main_v3, res_main_v4, res_main_v5, res_main_v6]
  simp only [bit_edge]
  rfl
/-- Step 1's inputs to the gates from the states. -/
theorem gh_1 (r : Fin 512) (n : Fin 384) : (res_main_v39 V0 : S512x384.Idx → EReal) (ix2 r n) = gateH (netOf V0) (fun k => (nodesOf V0) (ix2 r k)) n := by
  pointwise [res_main_v39]
  rfl
/-- The states after step 1. -/
theorem h_1 : (res_main_v67 V0 : S512x128.Idx → EReal) = step (netOf V0) (nodesOf V0) := by
  funext y
  obtain ⟨r, n, rfl⟩ : ∃ (r : Fin 512) (n : Fin 128), y = ix2 r n := ⟨y 0, y 1, ix2_surj y⟩
  pointwise [res_main_v67, res_main_v59]
  simp only [gi_1, gh_1]
  rfl

/-- Step 2's inputs to the gates from the messages. -/
theorem gi_2 (r : Fin 512) (n : Fin 384) : (res_main_v95 V0 : S512x384.Idx → EReal) (ix2 r n) = gateI (netOf V0) (agg (netOf V0) (step (netOf V0) (nodesOf V0)) r) n := by
  pointwise [res_main_v95, res_main_v3, res_main_v4, res_main_v5, res_main_v6]
  simp only [h_1, bit_edge]
  rfl
/-- Step 2's inputs to the gates from the states. -/
theorem gh_2 (r : Fin 512) (n : Fin 384) : (res_main_v100 V0 : S512x384.Idx → EReal) (ix2 r n) = gateH (netOf V0) (fun k => (step (netOf V0) (nodesOf V0)) (ix2 r k)) n := by
  pointwise [res_main_v100]
  simp only [h_1]
  rfl
/-- The states after step 2. -/
theorem h_2 : (res_main_v128 V0 : S512x128.Idx → EReal) = step (netOf V0) (step (netOf V0) (nodesOf V0)) := by
  funext y
  obtain ⟨r, n, rfl⟩ : ∃ (r : Fin 512) (n : Fin 128), y = ix2 r n := ⟨y 0, y 1, ix2_surj y⟩
  pointwise [res_main_v128, res_main_v120]
  simp only [h_1, gi_2, gh_2]
  rfl

/-- Step 3's inputs to the gates from the messages. -/
theorem gi_3 (r : Fin 512) (n : Fin 384) : (res_main_v156 V0 : S512x384.Idx → EReal) (ix2 r n) = gateI (netOf V0) (agg (netOf V0) (step (netOf V0) (step (netOf V0) (nodesOf V0))) r) n := by
  pointwise [res_main_v156, res_main_v3, res_main_v4, res_main_v5, res_main_v6]
  simp only [h_2, bit_edge]
  rfl
/-- Step 3's inputs to the gates from the states. -/
theorem gh_3 (r : Fin 512) (n : Fin 384) : (res_main_v161 V0 : S512x384.Idx → EReal) (ix2 r n) = gateH (netOf V0) (fun k => (step (netOf V0) (step (netOf V0) (nodesOf V0))) (ix2 r k)) n := by
  pointwise [res_main_v161]
  simp only [h_2]
  rfl
/-- The result: the states after step 3. -/
theorem result_eq :
    (addf (mulf (subf (broadcastInDim S512x128 ![] bcast_S_S512x128 (constant S_ .f32 0x3F800000#32)) (res_main_v181 V0)) (Host.tanh (addf (extractStridedSlice S512x128 ![0, 256] (res_main_v156 V0) slices_S512x384_S512x128_0_256) (mulf (Host.divf (broadcastInDim S512x128 ![] bcast_S_S512x128 (constant S_ .f32 0x3F800000#32)) (addf (broadcastInDim S512x128 ![] bcast_S_S512x128 (constant S_ .f32 0x3F800000#32)) (Host.exp (Host.negf (addf (extractStridedSlice S512x128 ![0, 0] (res_main_v156 V0) slices_S512x384_S512x128_0_0) (extractStridedSlice S512x128 ![0, 0] (res_main_v161 V0) slices_S512x384_S512x128_0_0)))))) (extractStridedSlice S512x128 ![0, 256] (res_main_v161 V0) slices_S512x384_S512x128_0_256))))) (mulf (res_main_v181 V0) (res_main_v128 V0)) : FVec Ideal S512x128 .f32)
      = state (netOf V0) (nodesOf V0) 3 := by
  funext y
  obtain ⟨r, n, rfl⟩ : ∃ (r : Fin 512) (n : Fin 128), y = ix2 r n := ⟨y 0, y 1, ix2_surj y⟩
  pointwise [res_main_v181]
  simp only [h_2, gi_3, gh_3]
  rfl

end Cert.ReferenceIdeal.Value

end
-- ==== Proof.lean ====
module

public import proofs.«01_k».proof.Defs
public import proofs.«01_k».proof.Proof.LaunchKernel
public import proofs.«01_k».proof.Proof.RunKernelIdealValue
public import proofs.«01_k».proof.Proof.ValueReferenceIdeal
public import Idealize.ShloMosaic.Adequacy
public import Idealize.ShloMosaic.Init

@[expose] public section

/-! The claims, assembled from the modules under Proof/. -/

noncomputable section

namespace Cert.Proof

open Idealize.ShloMosaic Idealize.ShloMosaic.TcCoe Idealize.SL.Sem Idealize.ShloMosaic.StableHlo

/-- The two programs' arguments agreeing, the reference's inputs are the kernel's. -/
theorem nets_eq (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (h : V0 (Proc.devRef .tc Cert.ReferenceIdeal.main_arg0) = m ((c.tc : Thread Cert.KernelIdeal.nD Cert.KernelIdeal.τ).loc Cert.KernelIdeal.main_arg0)
      ∧ V0 (Proc.devRef .tc Cert.ReferenceIdeal.main_arg1) = m ((c.tc : Thread Cert.KernelIdeal.nD Cert.KernelIdeal.τ).loc Cert.KernelIdeal.main_arg1)
      ∧ V0 (Proc.devRef .tc Cert.ReferenceIdeal.main_arg2) = m ((c.tc : Thread Cert.KernelIdeal.nD Cert.KernelIdeal.τ).loc Cert.KernelIdeal.main_arg2)
      ∧ V0 (Proc.devRef .tc Cert.ReferenceIdeal.main_arg3) = m ((c.tc : Thread Cert.KernelIdeal.nD Cert.KernelIdeal.τ).loc Cert.KernelIdeal.main_arg3)
      ∧ V0 (Proc.devRef .tc Cert.ReferenceIdeal.main_arg4) = m ((c.tc : Thread Cert.KernelIdeal.nD Cert.KernelIdeal.τ).loc Cert.KernelIdeal.main_arg4)
      ∧ V0 (Proc.devRef .tc Cert.ReferenceIdeal.main_arg5) = m ((c.tc : Thread Cert.KernelIdeal.nD Cert.KernelIdeal.τ).loc Cert.KernelIdeal.main_arg5)
      ∧ V0 (Proc.devRef .tc Cert.ReferenceIdeal.main_arg6) = m ((c.tc : Thread Cert.KernelIdeal.nD Cert.KernelIdeal.τ).loc Cert.KernelIdeal.main_arg6)
      ∧ V0 (Proc.devRef .tc Cert.ReferenceIdeal.main_arg7) = m ((c.tc : Thread Cert.KernelIdeal.nD Cert.KernelIdeal.τ).loc Cert.KernelIdeal.main_arg7)
      ∧ V0 (Proc.devRef .tc Cert.ReferenceIdeal.main_arg8) = m ((c.tc : Thread Cert.KernelIdeal.nD Cert.KernelIdeal.τ).loc Cert.KernelIdeal.main_arg8)
      ∧ V0 (Proc.devRef .tc Cert.ReferenceIdeal.main_arg9) = m ((c.tc : Thread Cert.KernelIdeal.nD Cert.KernelIdeal.τ).loc Cert.KernelIdeal.main_arg9)
      ∧ V0 (Proc.devRef .tc Cert.ReferenceIdeal.main_arg10) = m ((c.tc : Thread Cert.KernelIdeal.nD Cert.KernelIdeal.τ).loc Cert.KernelIdeal.main_arg10)) :
    Cert.ReferenceIdeal.Value.netOf V0 = Cert.KernelIdeal.Gen.netOf m c ∧ Cert.ReferenceIdeal.Value.nodesOf V0 = Cert.KernelIdeal.Gen.nodesOf m c := by
  obtain ⟨h0, h1, h2, h3, h4, h5, h6, h7, h8, h9, h10⟩ := h
  unfold Cert.ReferenceIdeal.Value.netOf Cert.KernelIdeal.Gen.netOf Cert.ReferenceIdeal.Value.nodesOf Cert.KernelIdeal.Gen.nodesOf
  exact ⟨by rw [h1, h2, h3, h4, h5, h6, h7, h8, h9, h10], h0⟩

/-- From memories agreeing on bounded arguments the kernel and the reference end with the same states. -/
theorem algebraic [Cert.Pre_bounded.Facts] : Cert.algebraic_KernelIdeal_ReferenceIdeal_pre_bounded
    (hKernelIdeal := Cert.KernelIdeal.Gen.facts) (hReferenceIdeal := Cert.ReferenceIdeal.Gen.facts) := fun m g m' g' hp hm =>
  ⟨fun c => Cert.Net.state (Cert.KernelIdeal.Gen.netOf m c) (Cert.KernelIdeal.Gen.nodesOf m c) 3, Cert.KernelIdeal.Gen.run_value m g hp,
    (θ_run _ _ _).mono (fun r h c => by
      have e := nets_eq m (launchContents m' c) c (hm c)
      refine ⟨((h c).1.trans (Cert.ReferenceIdeal.Value.result_eq (launchContents m' c))).trans ?_, (h c).2⟩
      rw [e.1, e.2]) (Cert.ReferenceIdeal.Value.run m' g')⟩

theorem claim : Cert.Claim := ⟨Cert.Kernel.Gen.facts, Cert.KernelIdeal.Gen.facts, Cert.ReferenceIdeal.Gen.facts, Cert.Pre_bounded.facts,
  fun m ρ _ => Cert.Kernel.Gen.frame m ρ, fun m ρ _ => Cert.KernelIdeal.Gen.frame m ρ, fun m ρ _ => Cert.KernelIdeal.Gen.frame m ρ,
  fun m ρ _ => (θ_run _ _ _).mono (fun r h => ⟨fun c => (h c).2, sem_eq_zero_of_no_sems rfl r.2⟩) (Cert.ReferenceIdeal.Value.run m ρ),
  fun m ρ _ => (θ_run _ _ _).mono (fun r h => ⟨fun c => (h c).2, sem_eq_zero_of_no_sems rfl r.2⟩) (Cert.ReferenceIdeal.Value.run m ρ),
  trivial, @algebraic Cert.Pre_bounded.facts⟩

end Cert.Proof

end
